-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x20 : Shape := ⟨2, ![16384, 20]⟩
abbrev S1000000x16 : Shape := ⟨2, ![1000000, 16]⟩
abbrev S320x512 : Shape := ⟨2, ![320, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel

variable [Facts]

def fn {F : FTy → Type} [FloatOps F] (main_arg0 : IVec S16384x20 32) (main_arg1 : FVec F S1000000x16 .f32) (main_arg2 : FVec F S320x512 .f32) (main_arg3 : FVec F S512 .f32) (main_arg4 : FVec F S512x256 .f32) (main_arg5 : FVec F S256 .f32) (main_arg6 : FVec F S256x1 .f32) (main_arg7 : FVec F S1 .f32) : IVec S_ 1 :=
  let main_c : IVec S_ 32 := constantI S_ 32 0#32
  let main_v0 : IVec S16384x20 32 := broadcastInDim S16384x20 ![] bcast_S_S16384x20 main_c
  let main_v1 : IVec S16384x20 1 := cmpi .sge main_arg0 main_v0
  let main_c_0 : IVec S_ 32 := constantI S_ 32 1000000#32
  let main_v2 : IVec S16384x20 32 := broadcastInDim S16384x20 ![] bcast_S_S16384x20 main_c_0
  let main_v3 : IVec S16384x20 1 := cmpi .slt main_arg0 main_v2
  let main_v4 : IVec S16384x20 1 := andi main_v1 main_v3
  let main_c_1 : IVec S_ 1 := constantI S_ 1 1#1
  let main_v5 : IVec S_ 1 := (fun x v => Host.reduce IntOp.andi x v reducesTo_S16384x20_S_d0_1 h_S_) main_v4 main_c_1
  main_v5
-- ==== Kernel.lean ====
abbrev S16384x20 : Shape := ⟨2, ![16384, 20]⟩
abbrev S1000000x16 : Shape := ⟨2, ![1000000, 16]⟩
abbrev S320x512 : Shape := ⟨2, ![320, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S327680 : Shape := ⟨1, ![327680]⟩
abbrev S327680x16 : Shape := ⟨2, ![327680, 16]⟩
abbrev S10240 : Shape := ⟨1, ![10240]⟩
abbrev S2048x16 : Shape := ⟨2, ![2048, 16]⟩
abbrev S_ : Shape := ⟨0, ![]⟩
abbrev S128x16 : Shape := ⟨2, ![128, 16]⟩
abbrev S128 : Shape := ⟨1, ![128]⟩
abbrev S16384x320 : Shape := ⟨2, ![16384, 320]⟩
abbrev S1x512 : Shape := ⟨2, ![1, 512]⟩
abbrev S1x256 : Shape := ⟨2, ![1, 256]⟩
abbrev S1x1 : Shape := ⟨2, ![1, 1]⟩
abbrev S16384x1 : Shape := ⟨2, ![16384, 1]⟩
abbrev S512x320 : Shape := ⟨2, ![512, 320]⟩
abbrev S512x1 : Shape := ⟨2, ![512, 1]⟩
abbrev S512x512 : Shape := ⟨2, ![512, 512]⟩

abbrev nBuf : Table → Nat
  | .hbm => 15
  | .local .tc .vmem => 10
  | .local .scVector .vmem => 2
  | _ => 0

abbrev bufTy : (tb : Table) → Fin (nBuf tb) → BufTy
  | .hbm, ⟨0, _⟩ => ⟨S16384x20, .i32⟩
  | .hbm, ⟨1, _⟩ => ⟨S1000000x16, .f32⟩
  | .hbm, ⟨2, _⟩ => ⟨S320x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S327680, .i32⟩
  | .hbm, ⟨9, _⟩ => ⟨S327680x16, .f32⟩
  | .hbm, ⟨10, _⟩ => ⟨S16384x320, .f32⟩
  | .hbm, ⟨11, _⟩ => ⟨S1x512, .f32⟩
  | .hbm, ⟨12, _⟩ => ⟨S1x256, .f32⟩
  | .hbm, ⟨13, _⟩ => ⟨S1x1, .f32⟩
  | .hbm, ⟨14, _⟩ => ⟨S16384x1, .f32⟩
  | .local .tc .vmem, ⟨0, _⟩ => ⟨S512x320, .f32⟩
  | .local .tc .vmem, ⟨1, _⟩ => ⟨S512x320, .f32⟩
  | .local .tc .vmem, ⟨2, _⟩ => ⟨S320x512, .f32⟩
  | .local .tc .vmem, ⟨3, _⟩ => ⟨S1x512, .f32⟩
  | .local .tc .vmem, ⟨4, _⟩ => ⟨S512x256, .f32⟩
  | .local .tc .vmem, ⟨5, _⟩ => ⟨S1x256, .f32⟩
  | .local .tc .vmem, ⟨6, _⟩ => ⟨S256x1, .f32⟩
  | .local .tc .vmem, ⟨7, _⟩ => ⟨S1x1, .f32⟩
  | .local .tc .vmem, ⟨8, _⟩ => ⟨S512x1, .f32⟩
  | .local .tc .vmem, ⟨9, _⟩ => ⟨S512x1, .f32⟩
  | .local .scVector .vmem, ⟨0, _⟩ => ⟨S10240, .i32⟩
  | .local .scVector .vmem, ⟨1, _⟩ => ⟨S2048x16, .f32⟩
  | _, _ => ⟨S16384x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v0_scv : Ref sig .scVector := ⟨.hbm, 8, rfl⟩
abbrev main_arg1_scv : Ref sig .scVector := ⟨.hbm, 1, rfl⟩
abbrev main_v1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  ![v2.toNat]
def k0_off2 (i : grid0.Coords) (c0_i32_144 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10240_i32 : BitVec 32 := 10240#32
  let v2 : BitVec 32 := Scalar.muli v1 c10240_i32
  let v99 : BitVec 32 := Scalar.addi v2 c0_i32_144
  let c0_i32_725_r1 : BitVec 32 := 0#32
  ![v99.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x320 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S320x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x20 : Shape := ⟨2, ![16384, 20]⟩
abbrev S1000000x16 : Shape := ⟨2, ![1000000, 16]⟩
abbrev S320x512 : Shape := ⟨2, ![320, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S16384x20x1 : Shape := ⟨3, ![16384, 20, 1]⟩
abbrev S1x1x1 : Shape := ⟨3, ![1, 1, 1]⟩
abbrev S16384x20x16 : Shape := ⟨3, ![16384, 20, 16]⟩
abbrev S16384x320 : Shape := ⟨2, ![16384, 320]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x1 : Shape := ⟨2, ![16384, 1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S1000000x16, .f32⟩
  | .hbm, ⟨2, _⟩ => ⟨S320x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .i32⟩
  | .hbm, ⟨9, _⟩ => ⟨S16384x20, .i32⟩
  | .hbm, ⟨10, _⟩ => ⟨S16384x20, .i1⟩
  | .hbm, ⟨11, _⟩ => ⟨S_, .i32⟩
  | .hbm, ⟨12, _⟩ => ⟨S16384x20, .i32⟩
  | .hbm, ⟨13, _⟩ => ⟨S16384x20, .i32⟩
  | .hbm, ⟨14, _⟩ => ⟨S16384x20, .i32⟩
  | .hbm, ⟨15, _⟩ => ⟨S16384x20x1, .i32⟩
  | .hbm, ⟨16, _⟩ => ⟨S1, .i32⟩
  | .hbm, ⟨17, _⟩ => ⟨S_, .i32⟩
  | .hbm, ⟨18, _⟩ => ⟨S16384x20x1, .i32⟩
  | .hbm, ⟨19, _⟩ => ⟨S16384x20x1, .i1⟩
  | .hbm, ⟨20, _⟩ => ⟨S1x1x1, .i32⟩
  | .hbm, ⟨21, _⟩ => ⟨S16384x20x1, .i32⟩
  | .hbm, ⟨22, _⟩ => ⟨S16384x20x1, .i1⟩
  | .hbm, ⟨23, _⟩ => ⟨S16384x20x1, .i1⟩
  | .hbm, ⟨24, _⟩ => ⟨S_, .i1⟩
  | .hbm, ⟨25, _⟩ => ⟨S16384x20, .i1⟩
  | .hbm, ⟨26, _⟩ => ⟨S16384x20x16, .f32⟩
  | .hbm, ⟨27, _⟩ => ⟨S16384x20x16, .i1⟩
  | .hbm, ⟨28, _⟩ => ⟨S_, .f32⟩
  | .hbm, ⟨29, _⟩ => ⟨S16384x20x16, .f32⟩
  | .hbm, ⟨30, _⟩ => ⟨S16384x20x16, .f32⟩
  | .hbm, ⟨31, _⟩ => ⟨S16384x320, .f32⟩
  | .hbm, ⟨32, _⟩ => ⟨S16384x512, .f32⟩
  | .hbm, ⟨33, _⟩ => ⟨S1x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S_, .f32⟩
  | .hbm, ⟨38, _⟩ => ⟨S16384x512, .f32⟩
  | .hbm, ⟨39, _⟩ => ⟨S16384x512, .i1⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x256, .f32⟩
  | .hbm, ⟨45, _⟩ => ⟨S1x256, .f32⟩
  | .hbm, ⟨46, _⟩ => ⟨S16384x256, .f32⟩
  | .hbm, ⟨47, _⟩ => ⟨S16384x256, .f32⟩
  | .hbm, ⟨48, _⟩ => ⟨S_, .f32⟩
  | .hbm, ⟨49, _⟩ => ⟨S_, .f32⟩
  | .hbm, ⟨50, _⟩ => ⟨S16384x256, .f32⟩
  | .hbm, ⟨51, _⟩ => ⟨S16384x256, .i1⟩
  | .hbm, ⟨52, _⟩ => ⟨S_, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S16384x1, .f32⟩
  | .hbm, ⟨57, _⟩ => ⟨S1x1, .f32⟩
  | .hbm, ⟨58, _⟩ => ⟨S16384x1, .f32⟩
  | .hbm, ⟨59, _⟩ => ⟨S16384x1, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_cst : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_0 : Ref sig .tc := ⟨.hbm, 48, rfl⟩
abbrev main_call2_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩

abbrev nD : Nat := 1
abbrev τ : Topo := Topo.v7x

variable {F : FTy → Type} [FloatOps F]
-- ==== Proof.TileProg.lean ====
/-
  The gather kernel's program in its own shape. The printed text lists every gather and every wait in full; here it is
  shown equal to the loop it unrolls: fetch the tile's list, then for each of five blocks start sixteen gathers, wait
  sixteen times, and copy the two thousand and forty-eight gathered rows out.
-/
module

public import proofs.«01_k».proof.Proof.Gen.KernelIdeal
public import proofs.«01_k».proof.Proof.Gen.KernelIdeal.Skeleton
public import Idealize.ShloMosaic.Lib.SparseCore.Stream
public import Idealize.ShloMosaic.Lib.Tactic

@[expose] public section

set_option maxRecDepth 16384

noncomputable section

namespace Cert.Proof.Tile

open Cert.KernelIdeal Cert.KernelIdeal.Gen
open Idealize.ShloMosaic
open Idealize.SL Idealize.SL.Sem

variable {F : FTy → Type} [FloatOps F]

/-- The rows of the row buffer that gather `j` of a block fills. -/
theorem rowsAt_inb (j : Fin 16) : ∀ a, (![128 * j.val, 0] : Fin 2 → ℕ) a + S128x16.size a ≤ S2048x16.size a := by
  have := j.isLt
  intro a; fin_cases a
  · show 128 * j.val + 128 ≤ 2048; omega
  · show 0 + 16 ≤ 16; omega

/-- The entries of the tile's list that gather `j` of block `b` reads. -/
theorem listAt_inb (b : Fin 5) (j : Fin 16) : ∀ a, (![2048 * b.val + 128 * j.val] : Fin 1 → ℕ) a + S128.size a ≤ S10240.size a := by
  have := j.isLt; have := b.isLt
  intro a; fin_cases a
  show 2048 * b.val + 128 * j.val + 128 ≤ 10240; omega

section Prog

variable (i : grid0.Coords) (arg2 : Memref sig .scVector .hbm S327680 .i32) (arg3 : Memref sig .scVector .hbm S1000000x16 .f32)
  (arg4 : Memref sig .scVector .hbm S327680x16 .f32) (arg5 : Memref sig .scVector .vmem S10240 .i32) (harg5 : arg5.IsWhole)
  (arg6 : Memref sig .scVector .vmem S2048x16 .f32) (harg6 : arg6.IsWhole) (arg7 : DmaSems sig S_)

abbrev rowsAt (j : Fin 16) : Memref sig .scVector .vmem S128x16 .f32 :=
  arg6.slice (Rect.unit (s := S2048x16) ![128 * j.val, 0] S128x16.size (rowsAt_inb j)) (fun _ => rfl)
abbrev listAt (b : Fin 5) (j : Fin 16) : Memref sig .scVector .vmem S128 .i32 :=
  arg5.slice (Rect.unit (s := S10240) ![2048 * b.val + 128 * j.val] S128.size (listAt_inb b j)) (fun _ => rfl)
abbrev tableAt : Memref sig .scVector .hbm S1000000x16 .f32 :=
  arg3.slice (Rect.unit (s := S1000000x16) ![0, 0] S1000000x16.size inb_S1000000x16_S1000000x16_0_0) (fun _ => rfl)
abbrev outAt (b : Fin 5) : Memref sig .scVector .hbm S2048x16 .f32 :=
  arg4.slice (Rect.unit (s := S327680x16) (k0_off2 i (BitVec.ofNat 32 (2048 * b.val))) S2048x16.size (k0_off2_inb i b)) (fun _ => rfl)
abbrev chunkAt : Memref sig .scVector .hbm S10240 .i32 :=
  arg2.slice (Rect.unit (s := S327680) (k0_off1 i) S10240.size (k0_off1_inb i)) (fun _ => rfl)

/-- Gather `j` of block `b`, started. -/
def start (b : Fin 5) (j : Fin 16) : Prog (TpuEff nD τ sig (Elt F) Λ₀ (.scVector ((i 0).castLE hcore0) ((i 1).castLE hsub0))) PUnit :=
  SparseCore.enqueueIndirectGather rfl (tableAt arg3) (rowsAt arg6 j) gathers_S1000000x16_S128x16 (listAt arg5 b j) rfl arg7.sem (View.wordExact_bits rfl) rfl (Or.inl rfl)

/-- The wait that names gather `j`'s rows. -/
def await (j : Fin 16) : Prog (TpuEff nD τ sig (Elt F) Λ₀ (.scVector ((i 0).castLE hcore0) ((i 1).castLE hsub0))) PUnit :=
  SparseCore.waitIndirectGather arg7.sem (tableAt arg3) (rowsAt arg6 j) (View.wordExact_bits rfl) (View.wordExact_bits rfl)

/-- The gathers listed, started in order. -/
def starts (b : Fin 5) : List (Fin 16) → Prog (TpuEff nD τ sig (Elt F) Λ₀ (.scVector ((i 0).castLE hcore0) ((i 1).castLE hsub0))) PUnit
  | [] => .ret ⟨⟩
  | j :: l => start i arg3 arg5 arg6 arg7 b j >>= fun _ => starts b l

/-- The waits listed, in order. -/
def awaits : List (Fin 16) → Prog (TpuEff nD τ sig (Elt F) Λ₀ (.scVector ((i 0).castLE hcore0) ((i 1).castLE hsub0))) PUnit
  | [] => .ret ⟨⟩
  | j :: l => await i arg3 arg6 arg7 j >>= fun _ => awaits l

/-- The gathers of a block, in order. -/
def all16 : List (Fin 16) := [0, 1, 2, 3, 4, 5, 6, 7, 8, 9, 10, 11, 12, 13, 14, 15]

/-- The block's rows copied out, and the copy waited for. -/
def copyOut (b : Fin 5) (r : DmaSems sig S_) : Prog (TpuEff nD τ sig (Elt F) Λ₀ (.scVector ((i 0).castLE hcore0) ((i 1).castLE hsub0))) PUnit := do
  Prog.lift (.enqueueDma arg6 (.here (outAt i arg4 b)) (.dma r.sem) harg6.wordExact (View.wordExact_bits rfl) ⟨Or.inl rfl, trivial⟩)
  Prog.lift (.waitDma2 r.sem arg6 (outAt i arg4 b) harg6.wordExact (View.wordExact_bits rfl))

/-- The tile's list fetched. -/
def fetch (r : DmaSems sig S_) : Prog (TpuEff nD τ sig (Elt F) Λ₀ (.scVector ((i 0).castLE hcore0) ((i 1).castLE hsub0))) PUnit := do
  Prog.lift (.enqueueDma (chunkAt i arg2) (.here arg5) (.dma r.sem) (View.wordExact_bits rfl) harg5.wordExact ⟨Or.inl rfl, trivial⟩)
  Prog.lift (.waitDma2 r.sem (chunkAt i arg2) arg5 (View.wordExact_bits rfl) harg5.wordExact)

/-- One block. -/
def block (b : Fin 5) (r : DmaSems sig S_) : Prog (TpuEff nD τ sig (Elt F) Λ₀ (.scVector ((i 0).castLE hcore0) ((i 1).castLE hsub0))) PUnit := do
  starts i arg3 arg5 arg6 arg7 b all16
  awaits i arg3 arg6 arg7 all16
  copyOut i arg4 arg6 harg6 b r

end Prog

set_option maxRecDepth 1000000 in
/-- The printed kernel is the fetch and the five blocks. -/
theorem cc0_k_eq (i : grid0.Coords) (arg2 : Memref sig .scVector .hbm S327680 .i32) (harg2 : arg2.IsWhole) (arg3 : Memref sig .scVector .hbm S1000000x16 .f32) (harg3 : arg3.IsWhole)
    (arg4 : Memref sig .scVector .hbm S327680x16 .f32) (harg4 : arg4.IsWhole) (arg5 : Memref sig .scVector .vmem S10240 .i32) (harg5 : arg5.IsWhole)
    (arg6 : Memref sig .scVector .vmem S2048x16 .f32) (harg6 : arg6.IsWhole) (arg7 r0 r1 r2 r3 r4 r5 : DmaSems sig S_) :
    cc0_k (F := F) i arg2 harg2 arg3 harg3 arg4 harg4 arg5 harg5 arg6 harg6 arg7 r0 r1 r2 r3 r4 r5
      = (do
        fetch i arg2 arg5 harg5 r0
        block i arg3 arg4 arg5 arg6 harg6 arg7 0 r1
        block i arg3 arg4 arg5 arg6 harg6 arg7 1 r2
        block i arg3 arg4 arg5 arg6 harg6 arg7 2 r3
        block i arg3 arg4 arg5 arg6 harg6 arg7 3 r4
        block i arg3 arg4 arg5 arg6 harg6 arg7 4 r5) := rfl

end Cert.Proof.Tile

end
-- ==== Proof.Streams.lean ====
/-
  Several indirect gathers outstanding on ONE DMA semaphore.

  A tile starts sixteen indirect gathers on a single semaphore before it waits for any of them. Each gather credits the
  semaphore row by row, and the rows of different gathers may land in any order, so no single wait tells which rows
  are there: only the wait that brings the consumed credit to the whole issued amount does. The sixteen gathers are
  therefore counted as ONE batch whose members are the ROWS of all the gathers, in issue order. This module states what
  one row brings back (`rowBack`), the issue of one gather as the issue of its rows (`wp_gatherInBatch`), and what the
  rows of a gather bring back together (`rowBack_join`).
-/
module

public import Idealize.ShloMosaic.Lib.SparseCore.Stream
public import Idealize.ShloMosaic.Lib.Batch
public import Idealize.ShloMosaic.Lib.Tactic

@[expose] public section

set_option maxRecDepth 16384

noncomputable section

namespace Cert.Proof.Streams

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

section Pending

variable {M : Type} [URA M] {n : ℕ}

/-- The batch members from `j` on are the `o` next ones and those from `j + o` on. -/
theorem pending_take (Φ : Fin n → sProp M) {j o : ℕ} (h : j + o ≤ n) :
    bigSep (pending j) Φ = iprop((bigSep Finset.univ fun i : Fin o => Φ ⟨j + i.val, by have := i.isLt; omega⟩) ∗ bigSep (pending (j + o)) Φ) := by
  classical
  let f : Fin o ↪ Fin n := ⟨fun i => ⟨j + i.val, by have := i.isLt; omega⟩, fun a b hab => by
    have := Fin.ext_iff.mp hab; exact Fin.ext (by simpa using this)⟩
  have hset : pending (n := n) j = Finset.univ.map f ∪ pending (j + o) := by
    ext t
    simp only [pending, Finset.mem_filter, Finset.mem_univ, true_and, Finset.mem_union, Finset.mem_map]
    constructor
    · intro ht
      by_cases hlt : t.val < j + o
      · exact Or.inl ⟨⟨t.val - j, by omega⟩, Fin.ext (by show j + (t.val - j) = t.val; omega)⟩
      · exact Or.inr (by omega)
    · rintro (⟨i, rfl⟩ | ht)
      · show j ≤ j + i.val; omega
      · omega
  have hdis : Disjoint (Finset.univ.map f) (pending (n := n) (j + o)) := by
    rw [Finset.disjoint_left]
    rintro t ht ht'
    obtain ⟨i, -, rfl⟩ := Finset.mem_map.mp ht
    simp only [pending, Finset.mem_filter, Finset.mem_univ, true_and] at ht'
    have h1 : (f i).val = j + i.val := rfl
    have := i.isLt; omega
  rw [hset, BI.bigSep_union hdis, BI.bigSep_map]
  rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

section Row

variable (src : Memref sig c.2.kind sp s₀ e) (dst : Memref sig c.2.kind .vmem s e) (hg : s₀.Gathers a s)
  (offs : Memref sig c.2.kind .vmem si .i32) (hn : si.numel = s.size hg.axis') (ho : 0 < s.size hg.axis')
  (q qo : PosShare TreeShare) (fs : Buf (Elt F) (src.view.loc c)) (fd : Buf (Elt F) (dst.view.loc c)) (fo : Buf (Elt F) (offs.view.loc c))
  (r : Fin (s.size hg.axis') → Fin (s₀.size hg.axis))

/-- What row `j` of one gather brings back once it has landed: the row of the destination, holding row `r j` of the
    source; the share of the list's entry `j`; and the row's piece of the source's share. -/
def rowBack (j : Fin (s.size hg.axis')) : sProp 𝕄 :=
  iprop(((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (si.rowMajor.symm (j.cast hn.symm))}]{qo} fo))
      ∗ (src.view.loc c ↦[src.view.set]{pieceOf q _ ho j} fs))

instance rowBack_storable (j : Fin (s.size hg.axis')) :
    Storable (upEmb : UEmb _ 𝕄) (rowBack (Ix := Ix) (Name := Name) (U := U) (Lvl := Lvl) c src dst hg offs hn ho q qo fs fd fo r j) := by
  unfold rowBack; infer_instance

/-- All rows of a gather together: the destination written with the gathered rows, and the two read shares back. -/
theorem rowBack_join :
    bigSep Finset.univ (fun j => (rowBack c src dst hg offs hn ho q qo fs fd fo r j : sProp 𝕄))
      ⊢ iprop((dst.view.loc c ↦[dst.view.set]{fullShare}
                (dst.view.write (Elt F) fd (gatherPayload hg (src.view.read (Elt F) fs) r) Finset.univ))
          ∗ (src.view.loc c ↦[src.view.set]{q} fs) ∗ (offs.view.loc c ↦[offs.view.set]{qo} fo)) := by
  have hen : Function.Bijective (fun j : Fin (s.size hg.axis') => si.rowMajor.symm (j.cast hn.symm)) :=
    si.rowMajor.symm.bijective.comp (finCongr hn.symm).bijective
  have hW : ∀ (j : Fin (s.size hg.axis')) i, src.view.read (Elt F) fs (hg.rowIdx (r j) i)
      = gatherPayload hg (src.view.read (Elt F) fs) r ((s.rowRect hg.axis' j).emb i) := fun j i => by
    unfold gatherPayload; rw [Shape.Gathers.idx_rowRect_emb]
  unfold rowBack
  iintro H
  ihave H := bigSep_sep_out _ _ _ $$ H
  icases H with ⟨H, Hs⟩
  ihave H := bigSep_sep_out _ _ _ $$ H
  icases H with ⟨Hd, Ho⟩
  isplitl [Hd]
  · exact pointsTo_rows_write c dst.view hg.axis' fd (fun j i => src.view.read (Elt F) fs (hg.rowIdx (r j) i)) _ hW
  isplitl [Hs]
  · iapply (Entails.of_eq (pointsTo_piecesOf (src.view.set) fs ho q).symm) $$ Hs
  iapply (Entails.of_eq (pointsTo_entries c offs.view _ hen qo fo).symm) $$ Ho

end Row

/-- One more gather of a batch of rows is started: with `j` rows issued so far, holding shares of the source and of the
    list and the destination outright, the tile issues the gather's rows as the batch's next `s.size` members. Every
    word of the list must name a row of the source (`hin`). -/
theorem wp_gatherInBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (ho : 0 < s.size hg.axis')
    (hN : ∀ i, (dst.slice (s.rowRect hg.axis' i) (s.stride_rowRect hg.axis' i)).view.dmaCredit = N)
    (hin : ∀ x, (offs.view.read (Elt F) fo x).toNat < s₀.size hg.axis)
    {D : Fin n → sProp 𝕄} {j u : ℕ} (hj : j + s.size hg.axis' ≤ n) (hu : u ≤ j * N)
    (hD : ∀ i : Fin (s.size hg.axis'),
      (rowBack c src dst hg offs hn ho q qo fs fd fo (rows (offs.view.read (Elt F) fo) hn hin) i : sProp 𝕄) ⊢ D ⟨j + i.val, by have := i.isLt; omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ i, (rd i).dst.view.dmaCredit = s.size hg.axis' * N := sum_rowCredit_eq _ hN rfl
  unfold Batch
  iintro ⟨Hs, Hd, Ho, ⟨%γ, %γ₀, %κ, #Hinv, HI, H0, Hcred⟩⟩ Hk
  ihave HI := (Entails.of_eq (pending_take (fun t => count EC (γ t) 0) hj)) $$ HI
  icases HI with ⟨Hγ, HI⟩
  ihave Hd := (Entails.of_eq (pointsTo_rows c dst.view hg.axis' fullShare fd)) $$ Hd
  ihave Ho := (Entails.of_eq (pointsTo_entries c offs.view S.entry hen qo fo)) $$ Ho
  ihave Hs := (Entails.of_eq (pointsTo_piecesOf (src.view.set) fs ho q)) $$ Hs
  iapply (wp_enqueueIndirectDma 𝒱 c bd Set.univ (qo := qo) (fo := fo) (rd := rd) ι _ hA hrd hsum) $$ [Hd Ho Hs Hγ]
  · have hrow : ∀ i : Fin (s.size hg.axis'), iprop(inv κ (batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ ⟨j + i.val, by have := i.isLt; omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
        ((dst.view.slice (s.rowRect hg.axis' i)).write (Elt F) fd (fun x => src.view.read (Elt F) fs (hg.rowIdx (r i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hcr : (rd i).dst.view.dmaCredit = N := hN i
        have h := batch_creditUpdate EC (g := (c, SemLoc.dma sem)) (N := N) (γ := γ) (γ₀ := γ₀) (ι := κ) (D := D) ⟨j + i.val, by have := i.isLt; omega⟩ (hD i)
        rw [← hN i] at h
        iapply h
        isplitr; · rw [hN i]; iexact Hinv
        iexact Hγi
    unfold Stream.res
    ihave H1 := bigSep_sep_in _ _ _ $$ [Hd Ho]; · isplitl [Hd] <;> iassumption
    ihave H2 := bigSep_sep_in _ _ _ $$ [H1 Hs]; · isplitl [H1] <;> iassumption
    ihave H3 := bigSep_sep_in _ _ _ $$ [H2 Hγ]; · isplitl [H2] <;> iassumption
    iapply (bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.Streams

end
-- ==== Proof.Setup.lean ====
/-
  The program as the launch theorem sees it, its buffers, and the value the gather call leaves: every row of the
  gathered array is the row of the table its list entry names.
-/
module

public import proofs.«01_k».proof.Proof.TileProg
public import proofs.«01_k».proof.Proof.Streams
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal.Launch
public import proofs.«01_k».proof.Proof.Gen.KernelIdeal.Points

@[expose] public section

set_option maxRecDepth 16384

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × UR sig nD τ × Counters

abbrev EH : Emb UH (MT nD τ sig (HIx 1) (Elt F) ℕ UU ℕ) := embL

/-! ## The buffers -/

/-- The list of row numbers, the table, and the gathered array. -/
abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

/-- The grid point's SparseCore and subcore, and its thread. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

/-! ## The values -/

/-- Index `(r, k)` of the table. -/
def tabIx (r : Fin 1000000) (k : Fin 16) : S1000000x16.Idx :=
  fun | 0 => r | 1 => k | ⟨_ + 2, h⟩ => absurd h (Nat.not_lt.2 (Nat.le_add_left _ _))
/-- Entry `r` of the list. -/
def listIx (r : Fin 327680) : S327680.Idx :=
  fun | 0 => r | ⟨_ + 1, h⟩ => absurd h (Nat.not_lt.2 (Nat.le_add_left _ _))
/-- Entry `r` of a tile's part of the list. -/
def chunkIx (r : Fin 10240) : S10240.Idx :=
  fun | 0 => r | ⟨_ + 1, h⟩ => absurd h (Nat.not_lt.2 (Nat.le_add_left _ _))

/-- Lane `k` of the table's row that the word `w` names (row 0 for a word naming none). -/
def pick (tab : S1000000x16.Idx → Elt F .f32) (w : BitVec 32) (k : Fin 16) : Elt F .f32 :=
  if h : w.toNat < 1000000 then tab (tabIx ⟨w.toNat, h⟩ k) else tab (tabIx 0 k)

/-- The gathered array: row `y 0` is the table's row the list's entry `y 0` names. -/
def gath (tab : S1000000x16.Idx → Elt F .f32) (ix : S327680.Idx → BitVec 32) : S327680x16.Idx → Elt F .f32 :=
  fun y => pick tab (ix (listIx (y 0))) (y 1)

/-- One block's gathered rows, out of a tile's part of the list. -/
def blk (tab : S1000000x16.Idx → Elt F .f32) (fo : S10240.Idx → BitVec 32) (b : Fin 5) : S2048x16.Idx → Elt F .f32 :=
  fun y => pick tab (fo (chunkIx ⟨2048 * b.val + (y 0).val, by have := b.isLt; have : (y 0).val < 2048 := (y 0).isLt; omega⟩)) (y 1)

/-- The tile's part of the list. -/
def chunk (ix : S327680.Idx → BitVec 32) (L : grid0.Coords) : S10240.Idx → BitVec 32 :=
  fun x => ix (listIx ⟨20480 * (L 1).val + 10240 * (L 0).val + (x 0).val, by
    have h1 : (L 1).val < 16 := (L 1).isLt
    have h0 : (L 0).val < 2 := (L 0).isLt
    have : (x 0).val < 10240 := (x 0).isLt
    omega⟩)

end Cert.Proof.Tile

end
-- ==== Proof.Blocks.lean ====
/-
  One block of a tile's work: sixteen gathers of 128 rows each, all counted on one semaphore, their sixteen waits, and
  the 2048 gathered rows copied out. The block is proved once, for a symbolic tile and block number.
-/
module

public import proofs.«01_k».proof.Proof.Setup
public import Idealize.ShloMosaic.Lib.Pipeline.ValueKit.Geometry

@[expose] public section

set_option maxRecDepth 16384

noncomputable section

namespace Cert.Proof.Tile

open Cert.KernelIdeal Cert.KernelIdeal.Gen
open Idealize.ShloMosaic Idealize.ShloMosaic.Transfers
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Streams

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S327680 EltTy.i32)
local notation "xV" => (Memref.whole Cert.KernelIdeal.main_arg1_scv : Memref Cert.KernelIdeal.sig Kind.scVector Space.hbm Cert.KernelIdeal.S1000000x16 EltTy.f32)
local notation "oV" => (Memref.whole Cert.KernelIdeal.main_v1_scv : Memref Cert.KernelIdeal.sig Kind.scVector Space.hbm Cert.KernelIdeal.S327680x16 EltTy.f32)
local notation "sV" => (Memref.whole Cert.KernelIdeal.cc0_scratch0 : Memref Cert.KernelIdeal.sig Kind.scVector Space.vmem Cert.KernelIdeal.S10240 EltTy.i32)
local notation "rV" => (Memref.whole Cert.KernelIdeal.cc0_scratch1 : Memref Cert.KernelIdeal.sig Kind.scVector Space.vmem Cert.KernelIdeal.S2048x16 EltTy.f32)

/-! ## Where the pieces lie -/

section Geometry

theorem emb_rowsAt0 (j : Fin 16) (x : S128x16.Idx) : (((rowsAt rV j).view.emb x : S2048x16.Idx) 0).val = 128 * j.val + (x 0).val :=
  ValueKit.view_emb_slice_whole_unit_val cc0_scratch1 ![128 * j.val, 0] S128x16.size (rowsAt_inb j) x 0
theorem emb_rowsAt1 (j : Fin 16) (x : S128x16.Idx) : (((rowsAt rV j).view.emb x : S2048x16.Idx) 1).val = (x 1).val :=
  (ValueKit.view_emb_slice_whole_unit_val cc0_scratch1 ![128 * j.val, 0] S128x16.size (rowsAt_inb j) x 1).trans (Nat.zero_add _)
theorem emb_listAt (b : Fin 5) (j : Fin 16) (x : S128.Idx) : (((listAt sV b j).view.emb x : S10240.Idx) 0).val = 2048 * b.val + 128 * j.val + (x 0).val :=
  ValueKit.view_emb_slice_whole_unit_val cc0_scratch0 ![2048 * b.val + 128 * j.val] S128.size (listAt_inb b j) x 0
theorem emb_tableAt (x : S1000000x16.Idx) : ((tableAt xV).view.emb x : S1000000x16.Idx) = x := by
  funext a; apply Fin.ext
  refine (ValueKit.view_emb_slice_whole_unit_val main_arg1_scv ![0, 0] S1000000x16.size inb_S1000000x16_S1000000x16_0_0 x a).trans ?_
  match a with
  | 0 => exact Nat.zero_add _
  | 1 => exact Nat.zero_add _
theorem emb_outAt0 (L : grid0.Coords) (b : Fin 5) (x : S2048x16.Idx) :
    (((outAt L oV b).view.emb x : S327680x16.Idx) 0).val = 20480 * (L 1).val + 10240 * (L 0).val + 2048 * b.val + (x 0).val := by
  refine (ValueKit.view_emb_slice_whole_unit_val main_v1_scv _ S2048x16.size (k0_off2_inb L b) x 0).trans ?_
  exact congrArg (· + (x 0).val) (congrFun (k0_off2_eq L b) 0)
theorem emb_outAt1 (L : grid0.Coords) (b : Fin 5) (x : S2048x16.Idx) : (((outAt L oV b).view.emb x : S327680x16.Idx) 1).val = (x 1).val := by
  refine (ValueKit.view_emb_slice_whole_unit_val main_v1_scv _ S2048x16.size (k0_off2_inb L b) x 1).trans ?_
  exact (congrArg (· + (x 1).val) (congrFun (k0_off2_eq L b) 1)).trans (Nat.zero_add _)
theorem emb_chunkAt (L : grid0.Coords) (x : S10240.Idx) : (((chunkAt L iV).view.emb x : S327680.Idx) 0).val = 20480 * (L 1).val + 10240 * (L 0).val + (x 0).val := by
  refine (ValueKit.view_emb_slice_whole_unit_val main_v0_scv _ S10240.size (k0_off1_inb L) x 0).trans ?_
  exact congrArg (· + (x 0).val) (congrFun (k0_off1_eq L) 0)

theorem set_tableAt : ((tableAt xV).view.set : Finset S1000000x16.Idx) = Finset.univ :=
  Finset.eq_univ_of_forall fun x => Finset.mem_map.mpr ⟨x, Finset.mem_univ _, emb_tableAt x⟩

theorem mem_set {s : Shape} {e : EltTy} {sp : Space} (v : View sig .scVector sp s e) (i) : i ∈ v.set ↔ ∃ x, v.emb x = i := by
  simp [View.set]

theorem idx2_ext {x y : S2048x16.Idx} (h0 : (x 0).val = (y 0).val) (h1 : (x 1).val = (y 1).val) : x = y := by
  funext a; match a with
  | 0 => exact Fin.ext h0
  | 1 => exact Fin.ext h1

/-- Index `(r, k)` of a gather's rows. -/
def chunkRow (r : Fin 128) (k : Fin 16) : S128x16.Idx :=
  fun | 0 => r | 1 => k | ⟨_ + 2, h⟩ => absurd h (Nat.not_lt.2 (Nat.le_add_left _ _))

theorem rowsAt_disjoint (j j' : Fin 16) (h : j ≠ j') : Disjoint (rowsAt rV j).view.set (rowsAt rV j').view.set := by
  refine Finset.disjoint_left.mpr fun i hi hi' => h (Fin.ext ?_)
  obtain ⟨x, rfl⟩ := (mem_set _ _).mp hi
  obtain ⟨y, e⟩ := (mem_set _ _).mp hi'
  have h0 := emb_rowsAt0 j x
  have h0' := emb_rowsAt0 j' y
  rw [e] at h0'
  have hx : (x 0).val < 128 := (x 0).isLt
  have hy : (y 0).val < 128 := (y 0).isLt
  omega

theorem rowsAt_cover : (Finset.univ.biUnion fun j : Fin 16 => (rowsAt rV j).view.set) = (Finset.univ : Finset S2048x16.Idx) := by
  refine Finset.eq_univ_of_forall fun i => Finset.mem_biUnion.mpr ?_
  have hi : (i 0).val < 2048 := (i 0).isLt
  refine ⟨⟨(i 0).val / 128, by omega⟩, Finset.mem_univ _, (mem_set _ _).mpr
    ⟨chunkRow ⟨(i 0).val % 128, Nat.mod_lt _ (by decide)⟩ (i 1), ?_⟩⟩
  refine idx2_ext ((emb_rowsAt0 _ _).trans ?_) (emb_rowsAt1 _ _)
  exact Nat.div_add_mod _ _

end Geometry

/-! ## Values -/

section Values

variable (tab : S1000000x16.Idx → Elt F .f32) (fo : S10240.Idx → BitVec 32) (ix : S327680.Idx → BitVec 32)

theorem pick_of_lt {w : BitVec 32} (h : w.toNat < 1000000) (k : Fin 16) : pick tab w k = tab (tabIx ⟨w.toNat, h⟩ k) := dif_pos h

/-- What gather `j` of block `b` writes is its part of the block's gathered rows. -/
theorem rows_val (b : Fin 5) (j : Fin 16) (fr : S2048x16.Idx → Elt F .f32)
    (hin : ∀ x, ((listAt sV b j).view.read (Elt F) fo x).toNat < S1000000x16.size gathers_S1000000x16_S128x16.axis) :
    ∀ i ∈ (rowsAt rV j).view.set, (rowsAt rV j).view.write (Elt F) fr
      (gatherPayload gathers_S1000000x16_S128x16 ((tableAt xV).view.read (Elt F) tab) (rows ((listAt sV b j).view.read (Elt F) fo) rfl hin)) Finset.univ i
        = blk tab fo b i := by
  intro i hi
  obtain ⟨x, rfl⟩ := (mem_set _ _).mp hi
  rw [View.write_emb_of_mem _ _ (Finset.mem_univ x)]
  refine (cast_eq _ _).trans ?_
  unfold gatherPayload
  rw [View.read_apply]
  refine (cast_eq _ _).trans ?_
  rw [emb_tableAt]
  let e : S128.Idx := S128.rowMajor.symm ((x 0).cast rfl)
  have he : (e 0).val = (x 0).val := by
    have := (Shape.rowMajor_val_one e).symm
    rw [this]; show (S128.rowMajor (S128.rowMajor.symm _)).val = _; rw [Equiv.apply_symm_apply]; rfl
  have hc : chunkIx ⟨2048 * b.val + (((rowsAt rV j).view.emb x : S2048x16.Idx) 0).val, by
      have := b.isLt; have : (((rowsAt rV j).view.emb x : S2048x16.Idx) 0).val < 2048 := (((rowsAt rV j).view.emb x : S2048x16.Idx) 0).isLt; omega⟩
      = (listAt sV b j).view.emb e := by
    funext a; match a with
    | 0 =>
      apply Fin.ext; refine Eq.trans ?_ (emb_listAt b j e).symm
      show 2048 * b.val + _ = _; rw [emb_rowsAt0, he]; omega
  have hw : ((listAt sV b j).view.read (Elt F) fo e) = fo ((listAt sV b j).view.emb e) := (View.read_apply _ _).trans (cast_eq _ _)
  have hr := hin e
  have hn : ((listAt sV b j).view.read (Elt F) fo e).toNat = (fo ((listAt sV b j).view.emb e)).toNat := congrArg BitVec.toNat hw
  rw [hw] at hr
  unfold blk
  rw [hc]
  refine Eq.trans (congrArg tab ?_) (pick_of_lt tab hr _).symm
  funext a; apply Fin.ext
  match a with
  | 0 =>
    exact (congrArg Fin.val (Shape.Gathers.idx_axis gathers_S1000000x16_S128x16 _ x)).trans hn
  | 1 =>
    exact (Shape.Gathers.idx_of_ne gathers_S1000000x16_S128x16 _ x (1 : Fin 2) (by decide)).trans (emb_rowsAt1 j x).symm

/-- Contents of the result whose block reads as the block's gathered rows are the gathered array there. -/
theorem out_val (L : grid0.Coords) (b : Fin 5) (g : S327680x16.Idx → Elt F .f32)
    (hg : ∀ x, (outAt L oV b).view.read (Elt F) g x = blk tab (chunk ix L) b x) :
    ∀ i ∈ (outAt L oV b).view.set, g i = gath tab ix i := by
  intro i hi
  obtain ⟨x, rfl⟩ := (mem_set _ _).mp hi
  refine Eq.trans ((View.read_apply _ _).trans (cast_eq _ _)).symm ((hg x).trans ?_)
  unfold gath blk chunk
  congr 1
  · congr 2; apply Fin.ext; refine Eq.trans ?_ (emb_outAt0 L b x).symm
    show _ + _ + (2048 * b.val + (x 0).val) = _; omega
  · apply Fin.ext; exact (emb_outAt1 L b x).symm

/-- What the fetch reads is the tile's part of the list. -/
theorem chunk_read (L : grid0.Coords) : (chunkAt L iV).view.read (Elt F) ix = chunk ix L := by
  funext x
  refine (View.read_apply _ _).trans ((cast_eq _ _).trans ?_)
  unfold chunk; congr 1
  funext a; match a with
  | 0 => exact Fin.ext (emb_chunkAt L x)

end Values

end Cert.Proof.Tile

end
-- ==== Proof.Gathers.lean ====
/-
  The sixteen gathers of one block of a tile and their waits: every gather is started on the one semaphore, every wait
  drains 128 rows, and after the last wait the row buffer holds the 2048 gathered rows. Symbolic in tile and block.
-/
module

public import proofs.«01_k».proof.Proof.Blocks

@[expose] public section

set_option maxRecDepth 16384

noncomputable section

namespace Cert.Proof.Tile

open Cert.KernelIdeal Cert.KernelIdeal.Gen
open Idealize.ShloMosaic Idealize.ShloMosaic.Transfers
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Streams

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S327680 EltTy.i32)
local notation "xV" => (Memref.whole Cert.KernelIdeal.main_arg1_scv : Memref Cert.KernelIdeal.sig Kind.scVector Space.hbm Cert.KernelIdeal.S1000000x16 EltTy.f32)
local notation "oV" => (Memref.whole Cert.KernelIdeal.main_v1_scv : Memref Cert.KernelIdeal.sig Kind.scVector Space.hbm Cert.KernelIdeal.S327680x16 EltTy.f32)
local notation "sV" => (Memref.whole Cert.KernelIdeal.cc0_scratch0 : Memref Cert.KernelIdeal.sig Kind.scVector Space.vmem Cert.KernelIdeal.S10240 EltTy.i32)
local notation "rV" => (Memref.whole Cert.KernelIdeal.cc0_scratch1 : Memref Cert.KernelIdeal.sig Kind.scVector Space.vmem Cert.KernelIdeal.S2048x16 EltTy.f32)

section Gathers

variable (d : Dev nD) (L : grid0.Coords) (b : Fin 5) (q : PosShare TreeShare)
  (tab : S1000000x16.Idx → Elt F .f32) (fr : S2048x16.Idx → Elt F .f32) (fo : S10240.Idx → BitVec 32)

abbrev hg : S1000000x16.Gathers 0 S128x16 := gathers_S1000000x16_S128x16

/-- Gather `j`'s piece of the table's share, and of the list's. -/
abbrev qT (j : Fin 16) : PosShare TreeShare := pieceOf q 16 (by decide) j

/-- What gather `j` needs: its share of the table, its rows of the row buffer, its entries of the list. -/
def ready (j : Fin 16) : sProp 𝕄 :=
  iprop(((tableAt xV).view.loc (tile d L) ↦[(tableAt xV).view.set]{qT q j} tab)
    ∗ ((rowsAt rV j).view.loc (tile d L) ↦[(rowsAt rV j).view.set]{fullShare} fr)
    ∗ ((listAt sV b j).view.loc (tile d L) ↦[(listAt sV b j).view.set]{qT fullShare j} fo))

/-- The entries of the list lie in the table. -/
def InTable : Prop := ∀ x : S10240.Idx, (fo x).toNat < 1000000

theorem list_in (h : InTable fo) (j : Fin 16) :
    ∀ x, ((listAt sV b j).view.read (Elt F) fo x).toNat < S1000000x16.size hg.axis := fun x => by
  rw [show (listAt sV b j).view.read (Elt F) fo x = fo ((listAt sV b j).view.emb x) from (View.read_apply _ _).trans (cast_eq _ _)]
  exact h _

variable (h : InTable fo)

/-- What row `i` of gather `j` brings back. -/
def gBack (j : Fin 16) (i : Fin 128) : sProp 𝕄 :=
  rowBack (tile d L) (tableAt xV) (rowsAt rV j) hg (listAt sV b j) rfl (by decide) (qT q j) (qT fullShare j) tab fr fo
    (rows ((listAt sV b j).view.read (Elt F) fo) rfl (list_in b fo h j)) i

instance (j : Fin 16) (i : Fin 128) : Storable (upEmb : UEmb _ 𝕄) (gBack d L b q tab fr fo h j i) := by
  unfold gBack; exact rowBack_storable ..

/-- What the block's row transfer `t` brings back. -/
def back (t : Fin (16 * 128)) : sProp 𝕄 := gBack d L b q tab fr fo h t.divNat t.modNat

instance (t) : Storable (upEmb : UEmb _ 𝕄) (back d L b q tab fr fo h t) := by
  unfold back; infer_instance

theorem back_at (j : Fin 16) (i : Fin 128) (hlt : 128 * j.val + i.val < 16 * 128) :
    back d L b q tab fr fo h ⟨128 * j.val + i.val, hlt⟩ = gBack d L b q tab fr fo h j i := by
  unfold back
  congr 1
  · apply Fin.ext; show (128 * j.val + i.val) / 128 = _; have := i.isLt; omega
  · apply Fin.ext; show (128 * j.val + i.val) % 128 = _; have := i.isLt; omega

variable [FloatOps F] {α : Type} (k : PUnit → Prog (TpuEff nD τ sig (Elt F) Λ₀ (tile d L).2) α)

abbrev batch (j u : ℕ) : sProp 𝕄 :=
  Batch countersEmb (tile d L) (.dma cc0_scratch2.sem) (default : HIx 1) 512 (back d L b q tab fr fo h) j u

theorem all16_drop : ∀ n : Fin 16, all16.drop n.val = n :: all16.drop (n.val + 1) := by decide

/-- The gathers from number `n` on, started: all the block's row transfers are then under way. -/
theorem wp_starts (Q : α → sProp 𝕄) : ∀ (r n : ℕ), n + r = 16 →
    iprop(bigSep (pending n) (ready d L b q tab fr fo) ∗ batch d L b q tab fr fo h (128 * n) 0)
      ⊢ iprop((batch d L b q tab fr fo h (16 * 128) 0 -∗ wp frame (wpE (defs₀ (F := F)) 𝒱₀ (tile d L) none) Set.univ (k ⟨⟩) Q)
        -∗ wp frame (wpE (defs₀ (F := F)) 𝒱₀ (tile d L) none) Set.univ (starts L xV sV rV cc0_scratch2 b (all16.drop n) >>= k) Q) := by
  intro r
  induction r with
  | zero =>
    intro n hn
    obtain rfl : n = 16 := by omega
    iintro ⟨-, HB⟩ Hk
    iapply Hk $$ HB
  | succ r ih =>
    intro n hn
    have hlt : n < 16 := by omega
    rw [show all16.drop n = (⟨n, hlt⟩ : Fin 16) :: all16.drop (n + 1) from all16_drop ⟨n, hlt⟩, bigSep_pending_step _ n hlt]
    iintro ⟨⟨Hr, Hrest⟩, HB⟩ Hk
    unfold starts
    rw [bind_assoc]
    unfold ready
    icases Hr with ⟨Ht, Hd, Hl⟩
    unfold start
    iapply (wp_gatherInBatch countersEmb 𝒱₀ (tile d L) none (hg := hg) (default : HIx 1) 512 (by decide)
      (fun i => rfl) (list_in b fo h ⟨n, hlt⟩) (D := back d L b q tab fr fo h) (j := 128 * n) (u := 0) (by show 128 * n + 128 ≤ 16 * 128; omega) (Nat.zero_le _)
      (fun i => Entails.of_eq (back_at d L b q tab fr fo h ⟨n, hlt⟩ i _).symm)) $$ [Ht Hd Hl HB]
    · isplitl [Ht]; · iexact Ht
      isplitl [Hd]; · iexact Hd
      isplitl [Hl]; · iexact Hl
      iexact HB
    iintro HB
    iapply (ih (n + 1) (by omega)) $$ [Hrest HB]
    · isplitl [Hrest]; · iexact Hrest
      iexact HB
    iexact Hk

/-- The waits from number `n` on: after the last, every row is back and the semaphore is at zero. -/
theorem wp_awaits (Q : α → sProp 𝕄) {O : CellTallies nD τ sig (HIx 1)} : ∀ (r n : ℕ), n + r = 15 → ∀ W : Waits sig (HIx 1),
    iprop(batch d L b q tab fr fo h (16 * 128) (128 * n * 512) ∗ owes (tile d L) O W ∗ MayWaits (tile d L) (default : HIx 1) O)
      ⊢ iprop((iprop(bigSep Finset.univ (back d L b q tab fr fo h) ∗ semVal ((tile d L), .dma cc0_scratch2.sem) 0
            ∗ ∃ W', ⌜∀ p ∈ W', p ∈ W ∨ p.2 = none⌝ ∗ owes (tile d L) O W')
          -∗ wp frame (wpE (defs₀ (F := F)) 𝒱₀ (tile d L) none) Set.univ (k ⟨⟩) Q)
        -∗ wp frame (wpE (defs₀ (F := F)) 𝒱₀ (tile d L) none) Set.univ (awaits L xV rV cc0_scratch2 (all16.drop n) >>= k) Q) := by
  intro r
  induction r with
  | zero =>
    intro n hn W
    obtain rfl : n = 15 := by omega
    iintro ⟨HB, HO, #Hmw⟩ Hk
    iapply (wp_waitBatchAllO countersEmb 𝒱₀ (tile d L) none (default : HIx 1) (N := 512) (J := 128 * 512) rfl (by decide)
      (D := back d L b q tab fr fo h) (u := 128 * 15 * 512) (by decide)) $$ [HB HO]
    · isplitl [HB]; · iexact HB
      isplitl [HO]; · iexact HO
      iapply (MayWaits.elim (SemLoc.dma cc0_scratch2.sem)) $$ Hmw
    iintro ⟨HD, Hs, HO⟩
    iapply Hk
    isplitl [HD]; · iexact HD
    isplitl [Hs]; · iexact Hs
    iexists _; isplitr
    swap; · iexact HO
    ipureintro; intro p hp
    rcases Finset.mem_insert.mp hp with hp | hp; · exact .inr (hp ▸ rfl)
    exact .inl hp
  | succ r ih =>
    intro n hn W
    have hlt : n < 16 := by omega
    rw [show all16.drop n = (⟨n, hlt⟩ : Fin 16) :: all16.drop (n + 1) from all16_drop ⟨n, hlt⟩]
    iintro ⟨HB, HO, #Hmw⟩ Hk
    unfold awaits
    rw [bind_assoc]
    iapply (wp_waitBatchMulO countersEmb 𝒱₀ (tile d L) none (default : HIx 1) (N := 512) 128 rfl (D := back d L b q tab fr fo h)
      (j := 16 * 128) (u := 128 * n * 512) (by omega)) $$ [HB HO]
    · isplitl [HB]; · iexact HB
      isplitl [HO]; · iexact HO
      iapply (MayWaits.elim (SemLoc.dma cc0_scratch2.sem)) $$ Hmw
    iintro ⟨HB, HO⟩
    rw [show 128 * n * 512 + 128 * 512 = 128 * (n + 1) * 512 by omega]
    iapply (ih (n + 1) (by omega) _) $$ [HB HO]
    · isplitl [HB]; · iexact HB
      isplitl [HO]; · iexact HO
      iexact Hmw
    iintro ⟨HD, Hs, %W', %hW', HO⟩
    iapply Hk
    isplitl [HD]; · iexact HD
    isplitl [Hs]; · iexact Hs
    iexists W'; isplitr
    swap; · iexact HO
    ipureintro; intro p hp
    rcases hW' p hp with hp | hp
    · rcases Finset.mem_insert.mp hp with hp | hp; · exact .inr (hp ▸ rfl)
      exact .inl hp
    · exact .inr hp

end Gathers

end Cert.Proof.Tile

end
-- ==== Proof.Block.lean ====
/-
  One block of a tile, whole: the buffers dealt to its sixteen gathers, the gathers and their waits, the buffers
  collected with the gathered rows in the row buffer, and the rows copied out to the block's part of the result.
-/
module

public import proofs.«01_k».proof.Proof.Gathers

@[expose] public section

set_option maxRecDepth 16384

noncomputable section

namespace Cert.Proof.Tile

open Cert.KernelIdeal Cert.KernelIdeal.Gen
open Idealize.ShloMosaic Idealize.ShloMosaic.Transfers
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Streams

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S327680 EltTy.i32)
local notation "xV" => (Memref.whole Cert.KernelIdeal.main_arg1_scv : Memref Cert.KernelIdeal.sig Kind.scVector Space.hbm Cert.KernelIdeal.S1000000x16 EltTy.f32)
local notation "oV" => (Memref.whole Cert.KernelIdeal.main_v1_scv : Memref Cert.KernelIdeal.sig Kind.scVector Space.hbm Cert.KernelIdeal.S327680x16 EltTy.f32)
local notation "sV" => (Memref.whole Cert.KernelIdeal.cc0_scratch0 : Memref Cert.KernelIdeal.sig Kind.scVector Space.vmem Cert.KernelIdeal.S10240 EltTy.i32)
local notation "rV" => (Memref.whole Cert.KernelIdeal.cc0_scratch1 : Memref Cert.KernelIdeal.sig Kind.scVector Space.vmem Cert.KernelIdeal.S2048x16 EltTy.f32)

section Block

variable (d : Dev nD) (L : grid0.Coords) (b : Fin 5) (q : PosShare TreeShare)
  (tab : S1000000x16.Idx → Elt F .f32) (fr : S2048x16.Idx → Elt F .f32) (fo : S10240.Idx → BitVec 32)

/-- A share of the whole table, the list, the row buffer, as the tile addresses them. -/
def tabPts : sProp 𝕄 := (xV).view.loc (tile d L) ↦{q} tab
def listPts : sProp 𝕄 := (sV).view.loc (tile d L) ↦{fullShare} fo
def rowsPts : sProp 𝕄 := (rV).view.loc (tile d L) ↦{fullShare} fr
/-- The block's part of the result. -/
def outPts (f : S327680x16.Idx → Elt F .f32) : sProp 𝕄 := (outAt L oV b).view.loc (tile d L) ↦[(outAt L oV b).view.set]{fullShare} f
/-- The part of the list's share `j` that gather `j` does not read. -/
def spare (j : Fin 16) : sProp 𝕄 := (sV).view.loc (tile d L) ↦[Finset.univ \ (listAt sV b j).view.set]{qT fullShare j} fo

theorem deal :
    iprop(tabPts d L q tab ∗ listPts d L fo ∗ rowsPts d L fr)
      ⊢ (iprop(bigSep Finset.univ (ready d L b q tab fr fo) ∗ bigSep Finset.univ (spare d L b fo)) : sProp 𝕄) := by
  have hl : ∀ j ∈ (Finset.univ : Finset (Fin 16)), ((sV).view.loc (tile d L) ↦{qT fullShare j} fo : sProp 𝕄)
      ⊢ iprop(((listAt sV b j).view.loc (tile d L) ↦[(listAt sV b j).view.set]{qT fullShare j} fo) ∗ spare d L b fo j) := fun j _ =>
    (pointsTo_split_subset (Finset.subset_univ (listAt sV b j).view.set)).1
  have hr : (rowsPts d L fr : sProp 𝕄) = bigSep Finset.univ fun j : Fin 16 => (rowsAt rV j).view.loc (tile d L) ↦[(rowsAt rV j).view.set]{fullShare} fr := by
    refine Eq.trans ?_ (pointsTo_biUnion (ℓ := (rV).view.loc (tile d L)) Finset.univ (fun j : Fin 16 => (rowsAt rV j).view.set)
      fun j _ j' _ hj => rowsAt_disjoint j j' hj)
    rw [rowsAt_cover]; rfl
  have ht : (tabPts d L q tab : sProp 𝕄) = bigSep Finset.univ fun j : Fin 16 => (tableAt xV).view.loc (tile d L) ↦[(tableAt xV).view.set]{qT q j} tab := by
    rw [set_tableAt]; exact pointsTo_piecesOf _ _ (by decide) q
  rw [hr, ht]
  unfold listPts
  iintro ⟨Ht, Hl, Hr⟩
  ihave Hl := (Entails.of_eq (pointsTo_piecesOf (ℓ := (sV).view.loc (tile d L)) Finset.univ fo (o := 16) (by decide) fullShare)) $$ Hl
  ihave Hl := (show _ ⊢ _ from BI.bigSep_mono hl) $$ Hl
  ihave Hl := bigSep_sep_out _ _ _ $$ Hl
  icases Hl with ⟨Hl, Hs⟩
  isplitr [Hs]
  · unfold ready
    iapply bigSep_sep_in; isplitl [Ht]; · iexact Ht
    iapply bigSep_sep_in; isplitl [Hr]; · iexact Hr
    iexact Hl
  · iexact Hs

variable (h : InTable fo)

theorem bigSep_back :
    bigSep Finset.univ (back d L b q tab fr fo h) = (bigSep Finset.univ fun j : Fin 16 => bigSep Finset.univ fun i : Fin 128 => gBack d L b q tab fr fo h j i : sProp 𝕄) := by
  rw [bigSep_univ_equiv finProdFinEquiv, bigSep_univ_prod]
  refine bigSep_congr fun j _ => bigSep_congr fun i _ => ?_
  have e := (finProdFinEquiv (m := 16) (n := 128)).symm_apply_apply (j, i)
  unfold back
  exact congrArg₂ (gBack d L b q tab fr fo h) (congrArg Prod.fst e) (congrArg Prod.snd e)

theorem collect :
    iprop(bigSep Finset.univ (back d L b q tab fr fo h) ∗ bigSep Finset.univ (spare d L b fo))
      ⊢ (iprop(tabPts d L q tab ∗ listPts d L fo ∗ rowsPts d L (blk tab fo b)) : sProp 𝕄) := by
  have hl : ∀ j ∈ (Finset.univ : Finset (Fin 16)), iprop(((listAt sV b j).view.loc (tile d L) ↦[(listAt sV b j).view.set]{qT fullShare j} fo) ∗ spare d L b fo j)
      ⊢ ((sV).view.loc (tile d L) ↦{qT fullShare j} fo : sProp 𝕄) := fun j _ =>
    (pointsTo_split_subset (Finset.subset_univ (listAt sV b j).view.set)).2
  have hr : (bigSep Finset.univ fun j : Fin 16 => (rowsAt rV j).view.loc (tile d L) ↦[(rowsAt rV j).view.set]{fullShare} blk tab fo b) = (rowsPts d L (blk tab fo b) : sProp 𝕄) := by
    refine Eq.trans (pointsTo_biUnion (ℓ := (rV).view.loc (tile d L)) Finset.univ (fun j : Fin 16 => (rowsAt rV j).view.set)
      fun j _ j' _ hj => rowsAt_disjoint j j' hj).symm ?_
    rw [rowsAt_cover]; rfl
  have ht : (bigSep Finset.univ fun j : Fin 16 => (tableAt xV).view.loc (tile d L) ↦[(tableAt xV).view.set]{qT q j} tab) = (tabPts d L q tab : sProp 𝕄) := by
    rw [set_tableAt]; exact (pointsTo_piecesOf _ _ (by decide) q).symm
  have hj : ∀ j ∈ (Finset.univ : Finset (Fin 16)), (bigSep Finset.univ fun i : Fin 128 => gBack d L b q tab fr fo h j i : sProp 𝕄)
      ⊢ iprop(((rowsAt rV j).view.loc (tile d L) ↦[(rowsAt rV j).view.set]{fullShare} blk tab fo b)
        ∗ ((tableAt xV).view.loc (tile d L) ↦[(tableAt xV).view.set]{qT q j} tab)
        ∗ ((listAt sV b j).view.loc (tile d L) ↦[(listAt sV b j).view.set]{qT fullShare j} fo)) := fun j _ => by
    have hjn : (bigSep Finset.univ fun i : Fin 128 => gBack d L b q tab fr fo h j i : sProp 𝕄)
        ⊢ iprop(((rowsAt rV j).view.loc (tile d L) ↦[(rowsAt rV j).view.set]{fullShare} (rowsAt rV j).view.write (Elt F) fr
            (gatherPayload hg ((tableAt xV).view.read (Elt F) tab) (rows ((listAt sV b j).view.read (Elt F) fo) rfl (list_in b fo h j))) Finset.univ)
          ∗ ((tableAt xV).view.loc (tile d L) ↦[(tableAt xV).view.set]{qT q j} tab)
          ∗ ((listAt sV b j).view.loc (tile d L) ↦[(listAt sV b j).view.set]{qT fullShare j} fo)) :=
      rowBack_join (tile d L) (tableAt xV) (rowsAt rV j) hg (listAt sV b j) rfl (by decide) (qT q j) (qT fullShare j) tab fr fo _
    iintro H
    ihave H := hjn $$ H
    icases H with ⟨Hd, H⟩
    isplitl [Hd]; · iapply (Entails.of_eq (pointsTo_congr (rows_val tab fo b j fr (list_in b fo h j)))) $$ Hd
    iexact H
  rw [bigSep_back]
  iintro ⟨HB, Hs⟩
  ihave HB := (show _ ⊢ _ from BI.bigSep_mono hj) $$ HB
  ihave HB := bigSep_sep_out _ _ _ $$ HB
  icases HB with ⟨Hr, HB⟩
  ihave HB := bigSep_sep_out _ _ _ $$ HB
  icases HB with ⟨Ht, Hl⟩
  isplitl [Ht]; · iapply (Entails.of_eq ht) $$ Ht
  isplitl [Hl Hs]
  · unfold listPts
    iapply (Entails.of_eq (pointsTo_piecesOf (ℓ := (sV).view.loc (tile d L)) Finset.univ fo (o := 16) (by decide) fullShare).symm)
    iapply (show _ ⊢ _ from BI.bigSep_mono hl)
    iapply bigSep_sep_in; isplitl [Hl]; · iexact Hl
    iexact Hs
  iapply (Entails.of_eq hr) $$ Hr

variable [FloatOps F] (ix : S327680.Idx → BitVec 32) (old : S327680x16.Idx → Elt F .f32) (r : DmaSems sig S_)
  (O : CellTallies nD τ sig (HIx 1)) (W : Waits sig (HIx 1))

omit [FloatOps F] in
/-- A view written whole reads as what was written. -/
theorem read_landed {sp : Space} {s : Shape} {e : EltTy} (v : View sig .scVector sp s e) (f : v.ty.Contents (Elt F)) (w : s.Idx → Elt F e) (x : s.Idx) :
    v.read (Elt F) (v.writes (Elt F) f [⟨Rect.whole s, w⟩]) x = w x := by
  have e : (Rect.whole s).emb x = x := Rect.emb_whole_apply s x
  have h := View.read_writes_cons_emb (v := v) (f := f) (Rect.whole s) w [] x
  rwa [e] at h

/-- The rows copied out. -/
theorem wp_copyOut :
    iprop(rowsPts d L (blk tab (chunk ix L) b) ∗ outPts d L b old ∗ semVal (tile d L, .dma r.sem) 0 ∗ owes (tile d L) O W ∗ MayWaits (tile d L) (default : HIx 1) O)
      ⊢ (wp frame (wpE (defs₀ (F := F)) 𝒱₀ (tile d L) none) Set.univ (copyOut L oV rV (Memref.isWhole_whole _) b r)
        fun _ => iprop(rowsPts d L (blk tab (chunk ix L) b) ∗ outPts d L b (gath tab ix) ∗ semVal (tile d L, .dma r.sem) 0
          ∗ ∃ W', ⌜∀ p ∈ W', p ∈ W ∨ p.2 = none⌝ ∗ owes (tile d L) O W') : sProp 𝕄) := by
  unfold rowsPts outPts copyOut
  iintro ⟨Hr, Ho, Hs, HO, #Hmw⟩
  sl_exec
  sl_step
  isplitl [Hr]; · iexact Hr
  isplitl [Ho]
  · iapply (Entails.of_eq (pointsTo_congr (out_val tab ix L b _ fun x => read_landed (outAt L oV b).view old _ x))) $$ Ho
  isplitl [Hs]; · iexact Hs
  iexists _; isplitr
  swap; · iexact HO
  ipureintro; intro p hp
  rcases Finset.mem_insert.mp hp with hp | hp; · exact .inr (hp ▸ rfl)
  exact .inl hp

/-- The block. -/
theorem wp_block (hin : InTable (chunk ix L)) :
    iprop((tabPts d L q tab ∗ listPts d L (chunk ix L) ∗ rowsPts d L fr) ∗ outPts d L b old ∗ semVal (tile d L, .dma cc0_scratch2.sem) 0
        ∗ semVal (tile d L, .dma r.sem) 0 ∗ owes (tile d L) O W ∗ MayWaits (tile d L) (default : HIx 1) O)
      ⊢ (wp frame (wpE (defs₀ (F := F)) 𝒱₀ (tile d L) none) Set.univ (block L xV oV sV rV (Memref.isWhole_whole _) cc0_scratch2 b r)
        fun _ => iprop((tabPts d L q tab ∗ listPts d L (chunk ix L) ∗ ∃ fr', rowsPts d L fr') ∗ outPts d L b (gath tab ix) ∗ semVal (tile d L, .dma cc0_scratch2.sem) 0
          ∗ semVal (tile d L, .dma r.sem) 0 ∗ ∃ W', ⌜∀ p ∈ W', p ∈ W ∨ p.2 = none⌝ ∗ owes (tile d L) O W') : sProp 𝕄) := by
  unfold block
  iintro ⟨Hb, Ho, Hg, Hs, HO, #Hmw⟩
  ihave Hb := (deal d L b q tab fr (chunk ix L)) $$ Hb
  icases Hb with ⟨Hready, Hspare⟩
  imod (batch_alloc' countersEmb (tile d L) (default : HIx 1) 512 (back d L b q tab fr (chunk ix L) hin)) $$ Hg with HB
  iapply (wp_starts d L b q tab fr (chunk ix L) hin _ _ 16 0 rfl) $$ [Hready HB]
  · isplitl [Hready]; · iapply (Entails.of_eq (bigSep_pending_zero _)) $$ Hready
    iexact HB
  iintro HB
  iapply (wp_awaits d L b q tab fr (chunk ix L) hin _ _ 15 0 rfl W) $$ [HB HO]
  · isplitl [HB]; · iexact HB
    isplitl [HO]; · iexact HO
    iexact Hmw
  iintro ⟨HB, Hg, %W', %hW', HO⟩
  ihave Hb := (collect d L b q tab fr (chunk ix L) hin) $$ [HB Hspare]
  · isplitl [HB]; · iexact HB
    iexact Hspare
  icases Hb with ⟨Ht, Hl, Hr⟩
  ihave Hwp := (wp_copyOut d L b tab ix old r O W') $$ [Hr Ho Hs HO]
  · isplitl [Hr]; · iexact Hr
    isplitl [Ho]; · iexact Ho
    isplitl [Hs]; · iexact Hs
    isplitl [HO]; · iexact HO
    iexact Hmw
  iapply (wp_wand _ _) $$ Hwp
  iintro %_ ⟨Hr, Ho, Hs, %W'', %hW'', HO⟩
  isplitl [Ht Hl Hr]
  · isplitl [Ht]; · iexact Ht
    isplitl [Hl]; · iexact Hl
    iexists _; iexact Hr
  isplitl [Ho]; · iexact Ho
  isplitl [Hg]; · iexact Hg
  isplitl [Hs]; · iexact Hs
  iexists W''; isplitr
  swap; · iexact HO
  ipureintro; intro p hp
  rcases hW'' p hp with hp | hp
  · exact hW' p hp
  · exact .inr hp

end Block

end Cert.Proof.Tile

end
-- ==== Proof.Tile.lean ====
/-
  A tile's task, whole: its part of the list fetched, its five blocks one after another; and the task as the launch asks
  for it.
-/
module

public import proofs.«01_k».proof.Proof.Block

@[expose] public section

set_option maxRecDepth 16384

noncomputable section

namespace Cert.Proof.Tile

open Cert.KernelIdeal Cert.KernelIdeal.Gen
open Idealize.ShloMosaic Idealize.ShloMosaic.Transfers
open Idealize.ShloMosaic.SparseCore (S V T rows gatherPayload)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Streams

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S327680 EltTy.i32)
local notation "xV" => (Memref.whole Cert.KernelIdeal.main_arg1_scv : Memref Cert.KernelIdeal.sig Kind.scVector Space.hbm Cert.KernelIdeal.S1000000x16 EltTy.f32)
local notation "oV" => (Memref.whole Cert.KernelIdeal.main_v1_scv : Memref Cert.KernelIdeal.sig Kind.scVector Space.hbm Cert.KernelIdeal.S327680x16 EltTy.f32)
local notation "sV" => (Memref.whole Cert.KernelIdeal.cc0_scratch0 : Memref Cert.KernelIdeal.sig Kind.scVector Space.vmem Cert.KernelIdeal.S10240 EltTy.i32)
local notation "rV" => (Memref.whole Cert.KernelIdeal.cc0_scratch1 : Memref Cert.KernelIdeal.sig Kind.scVector Space.vmem Cert.KernelIdeal.S2048x16 EltTy.f32)

/-! ## The blocks in order -/

section Prog
variable [FloatOps F]
variable (i : grid0.Coords) (arg3 : Memref sig .scVector .hbm S1000000x16 .f32) (arg4 : Memref sig .scVector .hbm S327680x16 .f32)
  (arg5 : Memref sig .scVector .vmem S10240 .i32) (arg6 : Memref sig .scVector .vmem S2048x16 .f32) (harg6 : arg6.IsWhole) (arg7 : DmaSems sig S_)

/-- The semaphores of the blocks' copies out. -/
def outSem : Fin 5 → DmaSems sig S_
  | 0 => cc0_scoped1 | 1 => cc0_scoped2 | 2 => cc0_scoped3 | 3 => cc0_scoped4 | 4 => cc0_scoped5

theorem outSem_inj : ∀ b b' : Fin 5, (outSem b).sem = (outSem b').sem → b = b' := by decide
theorem outSem_ne_scratch : ∀ b : Fin 5, (outSem b).sem ≠ cc0_scratch2.sem := by decide
theorem outSem_ne_fetch : ∀ b : Fin 5, (outSem b).sem ≠ cc0_scoped0.sem := by decide
theorem outSem_scoped : ∀ b : Fin 5, (SemLoc.dma (outSem b).sem : SemLoc sig).isScoped .scVector = true := by decide

/-- The blocks listed, in order. -/
def blocks : List (Fin 5) → Prog (TpuEff nD τ sig (Elt F) Λ₀ (.scVector ((i 0).castLE hcore0) ((i 1).castLE hsub0))) PUnit
  | [] => .ret ⟨⟩
  | b :: l => block i arg3 arg4 arg5 arg6 harg6 arg7 b (outSem b) >>= fun _ => blocks l

/-- All five. -/
def all5 : List (Fin 5) := [0, 1, 2, 3, 4]

theorem all5_drop : ∀ n : Fin 5, all5.drop n.val = n :: all5.drop (n.val + 1) := by decide

/-- The printed kernel at the call's operands is the fetch and the blocks. -/
theorem task_eq (i : grid0.Coords) :
    cc0_k (F := F) i iV (Memref.isWhole_whole _) xV (Memref.isWhole_whole _) oV (Memref.isWhole_whole _) sV (Memref.isWhole_whole _) rV (Memref.isWhole_whole _)
        cc0_scratch2 cc0_scoped0 cc0_scoped1 cc0_scoped2 cc0_scoped3 cc0_scoped4 cc0_scoped5
      = fetch i iV sV (Memref.isWhole_whole _) cc0_scoped0 >>= fun _ => blocks i xV oV sV rV (Memref.isWhole_whole _) cc0_scratch2 all5 >>= fun _ => .ret ⟨⟩ := by
  have e : ∀ p : Prog (TpuEff nD τ sig (Elt F) Λ₀ (.scVector ((i 0).castLE hcore0) ((i 1).castLE hsub0))) PUnit, (p >>= fun _ => Prog.ret ⟨⟩) = p :=
    fun p => Prog.bind_pure p
  rw [cc0_k_eq]
  simp only [blocks, all5, outSem, bind_assoc, e]

end Prog

section Tile

variable (d : Dev nD) (L : grid0.Coords) (q : PosShare TreeShare)
  (tab : S1000000x16.Idx → Elt F .f32) (ix : S327680.Idx → BitVec 32) (old : S327680x16.Idx → Elt F .f32)

/-- The tile's part of the list, in the whole list. -/
def chunkPts : sProp 𝕄 := (chunkAt L iV).view.loc (tile d L) ↦[(chunkAt L iV).view.set]{fullShare} ix

/-- What the tile is handed and gives back: its part of the list, its share of the table, its blocks of the result. -/
def task (f : S327680x16.Idx → Elt F .f32) : sProp 𝕄 :=
  iprop(chunkPts d L ix ∗ tabPts d L q tab ∗ bigSep Finset.univ fun b : Fin 5 => outPts d L b f)

instance (f : S327680x16.Idx → Elt F .f32) : Storable (upEmb : UEmb _ 𝕄) (task d L q tab ix f) := by
  unfold task chunkPts tabPts outPts; infer_instance

/-- The cell of the tile's semaphore. -/
abbrev cell (r : DmaSems sig S_) : GSem nD τ sig := (tile d L, .dma r.sem)

def outCell : Fin 5 ↪ GSem nD τ sig :=
  ⟨fun b => cell d L (outSem b), fun b b' h => by
    exact outSem_inj b b' (by injection (Prod.ext_iff.mp h).2)⟩

theorem own_cell (r : DmaSems sig S_) (h : (SemLoc.dma r.sem : SemLoc sig).isScoped .scVector = true) : cell d L r ∈ ownCells (tile d L) :=
  mem_ownCells.mpr ⟨rfl, h⟩

/-- The tile's semaphores: the fetch's, the gathers', the blocks', and the rest. -/
theorem ownSems0_tile :
    (ownSems0 (tile d L) : sProp 𝕄)
      = iprop(semVal (cell d L cc0_scoped0) 0 ∗ semVal (cell d L cc0_scratch2) 0 ∗ (bigSep Finset.univ fun b : Fin 5 => semVal (cell d L (outSem b)) 0)
          ∗ bigSep ((((ownCells (tile d L)).erase (cell d L cc0_scoped0)).erase (cell d L cc0_scratch2)) \ Finset.univ.map (outCell d L)) fun g => semVal g 0) := by
  have ne : ∀ r r' : DmaSems sig S_, r.sem ≠ r'.sem → cell d L r ≠ cell d L r' := fun r r' h e => h (by injection (Prod.ext_iff.mp e).2)
  unfold SparseCore.Cfg.ownSems0
  rw [SparseCore.bigSep_erase' (own_cell d L cc0_scoped0 (by decide)),
    SparseCore.bigSep_erase' (Finset.mem_erase.mpr ⟨ne _ _ (by decide), own_cell d L cc0_scratch2 (by decide)⟩),
    SparseCore.bigSep_sdiff_split' (t := Finset.univ.map (outCell d L)), BI.bigSep_map]
  · rfl
  · intro g hg
    obtain ⟨b, -, rfl⟩ := Finset.mem_map.mp hg
    exact Finset.mem_erase.mpr ⟨ne _ _ (outSem_ne_scratch b), Finset.mem_erase.mpr ⟨ne _ _ (outSem_ne_fetch b), own_cell d L (outSem b) (outSem_scoped b)⟩⟩

/-- The tile's two scratch buffers, and its other buffers. -/
theorem ownBufs_tile :
    (ownBufs (tile d L) : sProp 𝕄)
      = iprop((∃ f, listPts d L f) ∗ (∃ f, rowsPts d L f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]
  rfl

variable [FloatOps F] {α : Type} (k : PUnit → Prog (TpuEff nD τ sig (Elt F) Λ₀ (tile d L).2) α) {O : CellTallies nD τ sig (HIx 1)}

/-- Between blocks: the table's share, the list fetched, the row buffer at anything, the gathers' semaphore at zero. -/
def between (O : CellTallies nD τ sig (HIx 1)) (W : Waits sig (HIx 1)) : sProp 𝕄 :=
  iprop((tabPts d L q tab ∗ listPts d L (chunk ix L) ∗ ∃ fr, rowsPts d L fr) ∗ semVal (cell d L cc0_scratch2) 0
    ∗ ∃ W', ⌜∀ p ∈ W', p ∈ W ∨ p.2 = none⌝ ∗ owes (tile d L) O W')

/-- The blocks from number `n` on. -/
theorem wp_blocks (Q : α → sProp 𝕄) (hin : InTable (chunk ix L)) (W : Waits sig (HIx 1)) : ∀ r n, n + r = 5 →
    iprop(between d L q tab ix O W ∗ bigSep (pending n) (fun b : Fin 5 => outPts d L b old) ∗ bigSep (pending n) (fun b : Fin 5 => semVal (cell d L (outSem b)) 0)
        ∗ MayWaits (tile d L) (default : HIx 1) O)
      ⊢ iprop((iprop(between d L q tab ix O W ∗ bigSep (pending n) (fun b : Fin 5 => outPts d L b (gath tab ix)) ∗ bigSep (pending n) (fun b : Fin 5 => semVal (cell d L (outSem b)) 0))
          -∗ wp frame (wpE (defs₀ (F := F)) 𝒱₀ (tile d L) none) Set.univ (k ⟨⟩) Q)
        -∗ wp frame (wpE (defs₀ (F := F)) 𝒱₀ (tile d L) none) Set.univ (blocks L xV oV sV rV (Memref.isWhole_whole _) cc0_scratch2 (all5.drop n) >>= k) Q) := by
  intro r
  induction r with
  | zero =>
    intro n hn
    obtain rfl : n = 5 := by omega
    rw [show pending (n := 5) 5 = ∅ by decide]
    simp only [bigSep_empty]
    iintro ⟨Hb, Ho, Hs, -⟩ Hk
    iapply Hk
    isplitl [Hb]; · iexact Hb
    isplitl [Ho]; · iexact Ho
    iexact Hs
  | succ r ih =>
    intro n hn
    have hlt : n < 5 := by omega
    rw [show all5.drop n = (⟨n, hlt⟩ : Fin 5) :: all5.drop (n + 1) from all5_drop ⟨n, hlt⟩, bigSep_pending_step _ n hlt, bigSep_pending_step _ n hlt, bigSep_pending_step _ n hlt]
    unfold blocks
    rw [bind_assoc, wp_bind]
    unfold between
    iintro ⟨⟨⟨Ht, Hl, %fr, Hr⟩, Hg, %W', %hW', HO⟩, ⟨Ho, Hos⟩, ⟨Hs, Hss⟩, #Hmw⟩ Hk
    ihave Hwp := (wp_block d L ⟨n, hlt⟩ q tab fr ix old (outSem ⟨n, hlt⟩) O W' hin) $$ [Ht Hl Hr Hg Ho Hs HO]
    · isplitl [Ht Hl Hr]
      · isplitl [Ht]; · iexact Ht
        isplitl [Hl]; · iexact Hl
        iexact Hr
      isplitl [Ho]; · iexact Ho
      isplitl [Hg]; · iexact Hg
      isplitl [Hs]; · iexact Hs
      isplitl [HO]; · iexact HO
      iexact Hmw
    iapply (wp_wand _ _) $$ Hwp
    iintro %_ ⟨Hb, Ho, Hg, Hs, %W'', %hW'', HO⟩
    iapply (ih (n + 1) (by omega)) $$ [Hb Hg HO Hos Hss]
    · isplitl [Hb Hg HO]
      · unfold between
        isplitl [Hb]; · iexact Hb
        isplitl [Hg]; · iexact Hg
        iexists W''; isplitr
        swap; · iexact HO
        ipureintro; intro p hp
        rcases hW'' p hp with hp | hp
        · exact hW' p hp
        · exact .inr hp
      isplitl [Hos]; · iexact Hos
      isplitl [Hss]; · iexact Hss
      iexact Hmw
    iintro ⟨Hb, Hos, Hss⟩
    iapply Hk
    isplitl [Hb]; · unfold between; iexact Hb
    isplitl [Ho Hos]
    · isplitl [Ho]; · iexact Ho
      iexact Hos
    · isplitl [Hs]; · iexact Hs
      iexact Hss

/-- The list fetched. -/
theorem wp_fetch (fs : S10240.Idx → BitVec 32) (W : Waits sig (HIx 1)) :
    iprop(chunkPts d L ix ∗ listPts d L fs ∗ semVal (cell d L cc0_scoped0) 0 ∗ owes (tile d L) O W ∗ MayWaits (tile d L) (default : HIx 1) O)
      ⊢ (wp frame (wpE (defs₀ (F := F)) 𝒱₀ (tile d L) none) Set.univ (fetch L iV sV (Memref.isWhole_whole _) cc0_scoped0)
        fun _ => iprop(chunkPts d L ix ∗ listPts d L (chunk ix L) ∗ semVal (cell d L cc0_scoped0) 0
          ∗ ∃ W', ⌜∀ p ∈ W', p ∈ W ∨ p.2 = none⌝ ∗ owes (tile d L) O W') : sProp 𝕄) := by
  unfold chunkPts listPts fetch
  iintro ⟨Hi, Hl, Hs, HO, #Hmw⟩
  sl_exec
  sl_step
  isplitl [Hi]; · iexact Hi
  isplitl [Hl]
  · have e : View.write (Elt F) (sV).view fs (wp_fetch.sl.dma0 (F := F) L ix) Finset.univ = chunk ix L :=
      (View.write_whole_univ cc0_scratch0 fs _).trans (chunk_read ix L)
    iapply (Entails.of_eq (congrArg (fun f => ((sV).view.loc (tile d L) ↦{fullShare} f : sProp 𝕄)) e)) $$ Hl
  isplitl [Hs]; · iexact Hs
  iexists _; isplitr
  swap; · iexact HO
  ipureintro; intro p hp
  rcases Finset.mem_insert.mp hp with hp | hp; · exact .inr (hp ▸ rfl)
  exact .inl hp

end Tile

end Cert.Proof.Tile

end
-- ==== Proof.Task.lean ====
/-
  The gather call as the launch asks for it: what the call carries to each tile and brings back, every tile's task against
  it, the launch's ghost state, and the arrays dealt to the tiles and put together again.
-/
module

public import proofs.«01_k».proof.Proof.Tile

@[expose] public section

set_option maxRecDepth 16384

noncomputable section

namespace Cert.Proof.Tile

open Cert.KernelIdeal Cert.KernelIdeal.Gen
open Idealize.ShloMosaic Idealize.ShloMosaic.Transfers
open Idealize.ShloMosaic.SparseCore (S V T rows gatherPayload)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Streams

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S327680 EltTy.i32)
local notation "xV" => (Memref.whole Cert.KernelIdeal.main_arg1_scv : Memref Cert.KernelIdeal.sig Kind.scVector Space.hbm Cert.KernelIdeal.S1000000x16 EltTy.f32)
local notation "oV" => (Memref.whole Cert.KernelIdeal.main_v1_scv : Memref Cert.KernelIdeal.sig Kind.scVector Space.hbm Cert.KernelIdeal.S327680x16 EltTy.f32)
local notation "sV" => (Memref.whole Cert.KernelIdeal.cc0_scratch0 : Memref Cert.KernelIdeal.sig Kind.scVector Space.vmem Cert.KernelIdeal.S10240 EltTy.i32)
local notation "rV" => (Memref.whole Cert.KernelIdeal.cc0_scratch1 : Memref Cert.KernelIdeal.sig Kind.scVector Space.vmem Cert.KernelIdeal.S2048x16 EltTy.f32)

section Body

variable [FloatOps F] (d : Dev nD) (L : grid0.Coords) (q : PosShare TreeShare)
  (tab : S1000000x16.Idx → Elt F .f32) (ix : S327680.Idx → BitVec 32) (old : S327680x16.Idx → Elt F .f32)

/-- A tile's whole task: handed its operands, it brings them back with its blocks gathered. -/
theorem tile_body (hF : (K (F := F)).Facts) (hin : InTable (chunk ix L)) (O : CellTallies nD τ sig (HIx 1)) (W : Waits sig (HIx 1)) (hO : ∀ g, O g none = 0) :
    iprop(levAts (K (F := F)).L (K (F := F)).lev ∗ emp ∗ task d L q tab ix old
        ∗ scopedBufs (tile d L) ∗ scopedSems0 (tile d L) ∗ owes (tile d L) O W)
      ⊢ (wp frame (wpE (defs₀ (F := F)) 𝒱₀ (tile d L) none) Set.univ
          (cc0_k (F := F) L iV (Memref.isWhole_whole _) xV (Memref.isWhole_whole _) oV (Memref.isWhole_whole _) sV (Memref.isWhole_whole _) rV (Memref.isWhole_whole _)
            cc0_scratch2 cc0_scoped0 cc0_scoped1 cc0_scoped2 cc0_scoped3 cc0_scoped4 cc0_scoped5)
          fun _ => iprop(task d L q tab ix (gath tab ix) ∗ scopedBufs (tile d L) ∗ scopedSems0 (tile d L)
            ∗ ∃ W', ⌜∀ p ∈ W', p ∈ W ∨ p.2 = none⌝ ∗ owes (tile d L) O W') : sProp 𝕄) := by
  rw [(K (F := F)).scopedBufs_V hF d (cV L) (jV L), SparseCore.Cfg.scopedSems0_V (Val := Elt F) d (cV L) (jV L), ownSems0_tile, ownBufs_tile, task_eq, wp_bind]
  unfold task
  iintro ⟨#Hlv, -, ⟨Hi, Ht, Ho⟩, ⟨⟨%fs, Hs⟩, ⟨%fr, Hr⟩, Hbufs⟩, ⟨HsA, HsB, HsO, Hsems⟩, HO⟩
  ihave #Hmw := (show levAts (K (F := F)).L (K (F := F)).lev ⊢ Transfers.MayWaits (tile d L) (default : HIx 1) O from
    (K (F := F)).mayWaits_none (thr := tile d L) hO) $$ Hlv
  ihave Hwp := (wp_fetch d L ix fs W) $$ [Hi Hs HsA HO]
  · isplitl [Hi]; · iexact Hi
    isplitl [Hs]; · iexact Hs
    isplitl [HsA]; · iexact HsA
    isplitl [HO]; · iexact HO
    iexact Hmw
  iapply (wp_wand _ _) $$ Hwp
  iintro %_ ⟨Hi, Hs, HsA, HO⟩
  iapply (wp_blocks d L q tab ix old (fun _ => Prog.ret PUnit.unit) _ hin W 5 0 rfl) $$ [Ht Hs Hr HsB HO Ho HsO]
  · isplitl [Ht Hs Hr HsB HO]
    · unfold between
      isplitl [Ht Hs Hr]
      · isplitl [Ht]; · iexact Ht
        isplitl [Hs]; · iexact Hs
        iexists fr; iexact Hr
      isplitl [HsB]; · iexact HsB
      iexact HO
    isplitl [Ho]; · iapply (Entails.of_eq (bigSep_pending_zero _)) $$ Ho
    isplitl [HsO]; · iapply (Entails.of_eq (bigSep_pending_zero _)) $$ HsO
    iexact Hmw
  iintro ⟨Hb, Ho, HsO⟩
  unfold between
  icases Hb with ⟨⟨Ht, Hs, %fr', Hr⟩, HsB, HO⟩
  sl_step
  isplitl [Hi Ht Ho]
  · isplitl [Hi]; · iexact Hi
    isplitl [Ht]; · iexact Ht
    iapply (Entails.of_eq (bigSep_pending_zero _).symm) $$ Ho
  isplitl [Hs Hr Hbufs]
  · isplitl [Hs]; · iexists _; iexact Hs
    isplitl [Hr]; · iexists _; iexact Hr
    iexact Hbufs
  isplitl [HsA HsB HsO Hsems]
  · isplitl [HsA]; · iexact HsA
    isplitl [HsB]; · iexact HsB
    isplitl [HsO]; · iapply (Entails.of_eq (bigSep_pending_zero _).symm) $$ HsO
    iexact Hsems
  iexact HO

end Body

/-! ## What the call carries -/

/-- The grid point of a SparseCore and a subcore. -/
def point (c : Fin (grid0.bound 0)) (s : Fin (grid0.bound 1)) : grid0.Coords :=
  fun | 0 => c | 1 => s | ⟨_ + 2, h⟩ => absurd h (Nat.not_lt.2 (Nat.le_add_left _ _))

/-- The tile's share of the table: the whole, in two, each in sixteen. -/
abbrev share (c : Fin 2) (s : Fin 16) : PosShare TreeShare := pieceOf (pieceOf fullShare 2 (by decide) c) 16 (by decide) s

variable (tab : Dev nD → S1000000x16.Idx → Elt F .f32) (ix : Dev nD → S327680.Idx → BitVec 32) (old : Dev nD → S327680x16.Idx → Elt F .f32)

/-- One tile's operands and results, the gathered array at `f`. -/
def tileTask (d : Dev nD) (c : Fin 2) (s : Fin 16) (f : S327680x16.Idx → Elt F .f32) : sProp 𝕄 :=
  task d (point c s) (share c s) (tab d) (ix d) f

instance (d : Dev nD) (c : Fin 2) (s : Fin 16) (f : S327680x16.Idx → Elt F .f32) : Storable (upEmb : UEmb _ 𝕄) (tileTask tab ix d c s f) := by
  unfold tileTask; infer_instance

/-- A SparseCore's sixteen. -/
def coreTasks (d : Dev nD) (c : Fin 2) (f : S327680x16.Idx → Elt F .f32) : sProp 𝕄 :=
  bigSep Finset.univ fun s : Fin 16 => tileTask tab ix d c s f

instance (d : Dev nD) (c : Fin 2) (f : S327680x16.Idx → Elt F .f32) : Storable (upEmb : UEmb _ 𝕄) (coreTasks tab ix d c f) := by
  unfold coreTasks; infer_instance

def P : (K (F := F)).Pay (nD := nD) (Val := Elt F) (Name := ℕ) (U := UU) where
  st := fun q d c => match q with | 0 => coreTasks tab ix d c (old d)
  dn := fun q d c => match q with | 0 => coreTasks tab ix d c (gath (tab d) (ix d))
  go := fun q d c i => match q with | 0 => tileTask tab ix d c i (old d)
  td := fun q d c i => match q with | 0 => tileTask tab ix d c i (gath (tab d) (ix d))
  x := fun _ _ => iprop(emp)

instance P_storable : (P tab ix old).IsStorable where
  st q d c := match q with | 0 => (inferInstance : Storable (upEmb : UEmb _ 𝕄) (coreTasks tab ix d c (old d)))
  dn q d c := match q with | 0 => (inferInstance : Storable (upEmb : UEmb _ 𝕄) (coreTasks tab ix d c (gath (tab d) (ix d))))
  go q d c i := match q with | 0 => (inferInstance : Storable (upEmb : UEmb _ 𝕄) (tileTask tab ix d c i (old d)))
  td q d c i := match q with | 0 => (inferInstance : Storable (upEmb : UEmb _ 𝕄) (tileTask tab ix d c i (gath (tab d) (ix d))))

theorem vecSplit : (K (F := F)).VecSplit' (P tab ix old) 0 := by
  intro d c
  show coreTasks tab ix d c (old d) ⊢ |={Set.univ}=> iprop(coreTasks tab ix d c (old d)
    ∗ (coreTasks tab ix d c (gath (tab d) (ix d)) -∗ coreTasks tab ix d c (gath (tab d) (ix d))))
  iintro H; imodintro
  isplitl [H]; · iexact H
  iintro H; iexact H

section Obl
variable [FloatOps F]

theorem defs₀_vector (c : Fin τ.nSC) (s : Fin τ.nSub) :
    defs₀ (F := F) (.scVector c s) 0 ()
      = SparseCore.onTile hcore0 hsub0 (fun c s => cc0_k (point c s)
          iV (Memref.isWhole_whole _) xV (Memref.isWhole_whole _) oV (Memref.isWhole_whole _) sV (Memref.isWhole_whole _) rV (Memref.isWhole_whole _)
          cc0_scratch2 cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hin : ∀ d L, InTable (chunk (ix d) L)) : (K (F := F)).TileObl (D (F := F)) 𝒱 (P tab ix old) v₀ 0 := by
  intro d c i O W hO _ _
  simp only [show (P tab ix old).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (point ⟨_, hci.1⟩ ⟨_, hci.2⟩) _ (tab d) (ix d) (old d) hF (hin d _) O W hO).trans (wp_mono frame _ _ fun _ => obl_post)

end Obl

end Cert.Proof.Tile

end
-- ==== Proof.Deal.lean ====
/-
  The list, the table and the gathered array dealt to the thirty-two tiles: each tile's part of the list, its share of the
  table and its five blocks of the result, together the three arrays whole.
-/
module

public import proofs.«01_k».proof.Proof.Task

@[expose] public section

set_option maxRecDepth 16384

noncomputable section

namespace Cert.Proof.Tile

open Cert.KernelIdeal Cert.KernelIdeal.Gen
open Idealize.ShloMosaic Idealize.ShloMosaic.Transfers
open Idealize.ShloMosaic.SparseCore (S V T rows gatherPayload)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Streams

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S327680 EltTy.i32)
local notation "xV" => (Memref.whole Cert.KernelIdeal.main_arg1_scv : Memref Cert.KernelIdeal.sig Kind.scVector Space.hbm Cert.KernelIdeal.S1000000x16 EltTy.f32)
local notation "oV" => (Memref.whole Cert.KernelIdeal.main_v1_scv : Memref Cert.KernelIdeal.sig Kind.scVector Space.hbm Cert.KernelIdeal.S327680x16 EltTy.f32)
local notation "sV" => (Memref.whole Cert.KernelIdeal.cc0_scratch0 : Memref Cert.KernelIdeal.sig Kind.scVector Space.vmem Cert.KernelIdeal.S10240 EltTy.i32)
local notation "rV" => (Memref.whole Cert.KernelIdeal.cc0_scratch1 : Memref Cert.KernelIdeal.sig Kind.scVector Space.vmem Cert.KernelIdeal.S2048x16 EltTy.f32)

/-! ## Where each tile's pieces lie -/

section Geometry

abbrev rowIx (r : Fin 2048) (k : Fin 16) : S2048x16.Idx :=
  fun | 0 => r | 1 => k | ⟨_ + 2, h⟩ => absurd h (Nat.not_lt.2 (Nat.le_add_left _ _))

/-- Where tile `(c, s)`'s part of the list starts. -/
abbrev first (c : Fin 2) (s : Fin 16) : ℕ := 20480 * s.val + 10240 * c.val

theorem mem_chunk (c : Fin 2) (s : Fin 16) (i : S327680.Idx) :
    i ∈ ((chunkAt (point c s) iV).view.set : Finset S327680.Idx) ↔ first c s ≤ (i 0).val ∧ (i 0).val < first c s + 10240 := by
  rw [mem_set]
  constructor
  · rintro ⟨x, rfl⟩
    have h := emb_chunkAt (point c s) x
    have hx : (x 0).val < 10240 := (x 0).isLt
    have hL0 : (point c s 0).val = c.val := rfl
    have hL1 : (point c s 1).val = s.val := rfl
    unfold first; omega
  · rintro ⟨h1, h2⟩
    refine ⟨chunkIx ⟨(i 0).val - first c s, by omega⟩, ?_⟩
    have h := emb_chunkAt (point c s) (chunkIx ⟨(i 0).val - first c s, by omega⟩)
    have hL0 : (point c s 0).val = c.val := rfl
    have hL1 : (point c s 1).val = s.val := rfl
    have hx : ((chunkIx ⟨(i 0).val - first c s, by omega⟩ : S10240.Idx) 0).val = (i 0).val - first c s := rfl
    funext a; match a with
    | 0 => apply Fin.ext; unfold first at *; omega

theorem mem_out (c : Fin 2) (s : Fin 16) (b : Fin 5) (i : S327680x16.Idx) :
    i ∈ ((outAt (point c s) oV b).view.set : Finset S327680x16.Idx)
      ↔ first c s + 2048 * b.val ≤ (i 0).val ∧ (i 0).val < first c s + 2048 * b.val + 2048 := by
  rw [mem_set]
  have hL0 : (point c s 0).val = c.val := rfl
  have hL1 : (point c s 1).val = s.val := rfl
  constructor
  · rintro ⟨x, rfl⟩
    have h := emb_outAt0 (point c s) b x
    have hx : (x 0).val < 2048 := (x 0).isLt
    unfold first; omega
  · rintro ⟨h1, h2⟩
    have h16 : (i 1).val < 16 := (i 1).isLt
    refine ⟨rowIx ⟨(i 0).val - (first c s + 2048 * b.val), by omega⟩ ⟨(i 1).val, h16⟩, ?_⟩
    have h := emb_outAt0 (point c s) b (rowIx ⟨(i 0).val - (first c s + 2048 * b.val), by omega⟩ ⟨(i 1).val, h16⟩)
    have h' := emb_outAt1 (point c s) b (rowIx ⟨(i 0).val - (first c s + 2048 * b.val), by omega⟩ ⟨(i 1).val, h16⟩)
    have hx : ((rowIx ⟨(i 0).val - (first c s + 2048 * b.val), by omega⟩ ⟨(i 1).val, h16⟩ : S2048x16.Idx) 0).val = (i 0).val - (first c s + 2048 * b.val) := rfl
    have hx' : ((rowIx ⟨(i 0).val - (first c s + 2048 * b.val), by omega⟩ ⟨(i 1).val, h16⟩ : S2048x16.Idx) 1).val = (i 1).val := rfl
    funext a; match a with
    | 0 => apply Fin.ext; unfold first at *; omega
    | 1 => apply Fin.ext; omega

theorem chunks_apart (t t' : Fin 2 × Fin 16) (hne : t ≠ t') :
    Disjoint ((chunkAt (point t.1 t.2) iV).view.set : Finset S327680.Idx) (chunkAt (point t'.1 t'.2) iV).view.set := by
  rw [Finset.disjoint_left]
  intro i h h'
  rw [mem_chunk] at h h'
  apply hne
  obtain ⟨c, s⟩ := t; obtain ⟨c', s'⟩ := t'
  have hc := c.isLt; have hc' := c'.isLt
  unfold first at h h'
  dsimp only at h h'
  have e1 : s = s' := Fin.ext (by omega)
  have e2 : c = c' := Fin.ext (by omega)
  rw [e1, e2]

theorem chunks_cover (i : S327680.Idx) : ∃ t : Fin 2 × Fin 16, i ∈ ((chunkAt (point t.1 t.2) iV).view.set : Finset S327680.Idx) := by
  have hi : (i 0).val < 327680 := (i 0).isLt
  refine ⟨(⟨(i 0).val / 10240 % 2, by omega⟩, ⟨(i 0).val / 20480, by omega⟩), ?_⟩
  rw [mem_chunk]; unfold first; dsimp only; omega

theorem outs_apart (t t' : Fin 2 × Fin 16 × Fin 5) (hne : t ≠ t') :
    Disjoint ((outAt (point t.1 t.2.1) oV t.2.2).view.set : Finset S327680x16.Idx) (outAt (point t'.1 t'.2.1) oV t'.2.2).view.set := by
  rw [Finset.disjoint_left]
  intro i h h'
  rw [mem_out] at h h'
  apply hne
  obtain ⟨c, s, b⟩ := t; obtain ⟨c', s', b'⟩ := t'
  have hc := c.isLt; have hc' := c'.isLt; have hb := b.isLt; have hb' := b'.isLt
  unfold first at h h'
  dsimp only at h h'
  have e1 : s = s' := Fin.ext (by omega)
  have e2 : c = c' := Fin.ext (by omega)
  have e3 : b = b' := Fin.ext (by omega)
  rw [e1, e2, e3]

theorem outs_cover (i : S327680x16.Idx) :
    ∃ t : Fin 2 × Fin 16 × Fin 5, i ∈ ((outAt (point t.1 t.2.1) oV t.2.2).view.set : Finset S327680x16.Idx) := by
  have hi : (i 0).val < 327680 := (i 0).isLt
  refine ⟨(⟨(i 0).val / 10240 % 2, by omega⟩, ⟨(i 0).val / 20480, by omega⟩, ⟨(i 0).val / 2048 % 5, by omega⟩), ?_⟩
  rw [mem_out]; unfold first; dsimp only; omega

end Geometry

/-! ## The arrays dealt to the tiles -/

variable (tab : Dev nD → S1000000x16.Idx → Elt F .f32) (ix : Dev nD → S327680.Idx → BitVec 32)

theorem list_dealt (d : Dev nD) :
    (iLoc d ↦{fullShare} (ix d : Buf (Elt F) (iLoc d)) : sProp 𝕄)
      = bigSep Finset.univ fun c : Fin 2 => bigSep Finset.univ fun s : Fin 16 => chunkPts d (point c s) (ix d) := by
  rw [← BI.bigSep_univ_prod (fun t : Fin 2 × Fin 16 => (chunkPts d (point t.1 t.2) (ix d) : sProp 𝕄))]
  unfold chunkPts
  refine Eq.trans ?_ (pointsTo_biUnion (ℓ := iLoc d) Finset.univ (fun t : Fin 2 × Fin 16 => ((chunkAt (point t.1 t.2) iV).view.set : Finset S327680.Idx))
    fun t _ t' _ h => chunks_apart t t' h)
  exact congrArg (fun I => (iLoc d ↦[I]{fullShare} (ix d : Buf (Elt F) (iLoc d)) : sProp 𝕄))
    (Finset.eq_univ_of_forall fun i => let ⟨t, ht⟩ := chunks_cover i; Finset.mem_biUnion.mpr ⟨t, Finset.mem_univ _, ht⟩).symm

theorem out_dealt (d : Dev nD) (f : S327680x16.Idx → Elt F .f32) :
    (oLoc d ↦{fullShare} (f : Buf (Elt F) (oLoc d)) : sProp 𝕄)
      = bigSep Finset.univ fun c : Fin 2 => bigSep Finset.univ fun s : Fin 16 => bigSep Finset.univ fun b : Fin 5 => outPts d (point c s) b f := by
  have h : (bigSep Finset.univ fun c : Fin 2 => bigSep Finset.univ fun s : Fin 16 => bigSep Finset.univ fun b : Fin 5 => (outPts d (point c s) b f : sProp 𝕄))
      = bigSep Finset.univ fun t : Fin 2 × Fin 16 × Fin 5 => outPts d (point t.1 t.2.1) t.2.2 f := by
    rw [BI.bigSep_univ_prod]
    refine BI.bigSep_congr fun c _ => ?_
    rw [BI.bigSep_univ_prod]
  rw [h]
  unfold outPts
  refine Eq.trans ?_ (pointsTo_biUnion (ℓ := oLoc d) Finset.univ (fun t : Fin 2 × Fin 16 × Fin 5 => ((outAt (point t.1 t.2.1) oV t.2.2).view.set : Finset S327680x16.Idx))
    fun t _ t' _ h => outs_apart t t' h)
  exact congrArg (fun I => (oLoc d ↦[I]{fullShare} (f : Buf (Elt F) (oLoc d)) : sProp 𝕄))
    (Finset.eq_univ_of_forall fun i => let ⟨t, ht⟩ := outs_cover i; Finset.mem_biUnion.mpr ⟨t, Finset.mem_univ _, ht⟩).symm

theorem table_dealt (d : Dev nD) :
    (xLoc d ↦{fullShare} (tab d : Buf (Elt F) (xLoc d)) : sProp 𝕄)
      = bigSep Finset.univ fun c : Fin 2 => bigSep Finset.univ fun s : Fin 16 => tabPts d (point c s) (share c s) (tab d) := by
  rw [pointsTo_piecesOf Finset.univ _ (by decide : 0 < 2) fullShare]
  refine BI.bigSep_congr fun c _ => ?_
  rw [pointsTo_piecesOf Finset.univ _ (by decide : 0 < 16)]
  rfl

/-- The three arrays whole are what the two SparseCores are handed, and what they hand back. -/
theorem dealt_out (d : Dev nD) (f : S327680x16.Idx → Elt F .f32) :
    (bigSep Finset.univ fun c : Fin 2 => coreTasks tab ix d c f : sProp 𝕄)
      = iprop((iLoc d ↦{fullShare} (ix d : Buf (Elt F) (iLoc d))) ∗ (xLoc d ↦{fullShare} (tab d : Buf (Elt F) (xLoc d)))
          ∗ oLoc d ↦{fullShare} (f : Buf (Elt F) (oLoc d))) := by
  rw [list_dealt, table_dealt, out_dealt]
  unfold coreTasks tileTask task
  simp only [bigSep_sep']

end Cert.Proof.Tile

end
-- ==== Proof.Region.lean ====
/-
  The dense layers: the TensorCore's blocked call over 512 rows at a time, its body run on the staged blocks, and the
  call as a region of the program that leaves the result array at the rows the body computes.
-/
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.FrameBody
public import Idealize.ShloMosaic.Lib.Pipeline.ValueKit.Geometry
public import Idealize.ShloMosaic.Lib.VecWindow
public import Idealize.ShloMosaic.Lib.Tactic

@[expose] public section

set_option maxRecDepth 16384

noncomputable section

namespace Cert.Proof.Tile

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What a whole buffer of core `c` holds, and the buffer held. -/
abbrev Held (c : Dev nD) {sp : Space} {S : Shape} {e : EltTy} (M : Memref sig .tc sp S e) : Type := Buf (Elt F) (M.view.loc (c : Thread nD τ))
abbrev holds (c : Dev nD) {sp : Space} {S : Shape} {e : EltTy} (M : Memref sig .tc sp S e) (f : Held (F := F) c M) : sProp 𝕄 :=
  M.view.loc (c : Thread nD τ) ↦{fullShare} f

/-- The dense body: from the eight staging buffers held whole it returns with the first seven as they were and the last
    at a content that depends on those seven alone. -/
noncomputable def denseRun (c : Dev nD) (i : grid1.Coords)
    (M1 : Memref sig .tc .vmem S512x320 .f32) (h1 : M1.IsWhole) (M2 : Memref sig .tc .vmem S320x512 .f32) (h2 : M2.IsWhole)
    (M3 : Memref sig .tc .vmem S1x512 .f32) (h3 : M3.IsWhole) (M4 : Memref sig .tc .vmem S512x256 .f32) (h4 : M4.IsWhole)
    (M5 : Memref sig .tc .vmem S1x256 .f32) (h5 : M5.IsWhole) (M6 : Memref sig .tc .vmem S256x1 .f32) (h6 : M6.IsWhole)
    (M7 : Memref sig .tc .vmem S1x1 .f32) (h7 : M7.IsWhole) (M8 : Memref sig .tc .vmem S512x1 .f32) (h8 : M8.IsWhole)
    (f1 : Held (F := F) c M1) (f2 : Held (F := F) c M2) (f3 : Held (F := F) c M3) (f4 : Held (F := F) c M4)
    (f5 : Held (F := F) c M5) (f6 : Held (F := F) c M6) (f7 : Held (F := F) c M7) :
    { W : Held (F := F) c M8 // ∀ (f8 : Held (F := F) c M8) (E : Set ℕ) (Q : PUnit → sProp 𝕄),
        iprop((holds c M1 f1 ∗ holds c M2 f2 ∗ holds c M3 f3 ∗ holds c M4 f4 ∗ holds c M5 f5 ∗ holds c M6 f6 ∗ holds c M7 f7 ∗ holds c M8 f8)
            ∗ ((holds c M1 f1 ∗ holds c M2 f2 ∗ holds c M3 f3 ∗ holds c M4 f4 ∗ holds c M5 f5 ∗ holds c M6 f6 ∗ holds c M7 f7 ∗ holds c M8 W) -∗ Q ⟨⟩))
          ⊢ wp frame (wpE (defs₀ (F := F)) Variants.none c none) E (cc1_body i M1 h1 M2 h2 M3 h3 M4 h4 M5 h5 M6 h6 M7 h7 M8 h8) Q } := by
  refine ⟨?_, fun f8 E Q => ?run⟩
  case run =>
    rw [cc1_body_eq_skeleton]
    unfold cc1_body_skel
    iintro ⟨⟨H1, H2, H3, H4, H5, H6, H7, H8⟩, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem dense_out (c : Dev nD) (i : grid1.Coords)
    (M1 : Memref sig .tc .vmem S512x320 .f32) (h1 : M1.IsWhole) (M2 : Memref sig .tc .vmem S320x512 .f32) (h2 : M2.IsWhole)
    (M3 : Memref sig .tc .vmem S1x512 .f32) (h3 : M3.IsWhole) (M4 : Memref sig .tc .vmem S512x256 .f32) (h4 : M4.IsWhole)
    (M5 : Memref sig .tc .vmem S1x256 .f32) (h5 : M5.IsWhole) (M6 : Memref sig .tc .vmem S256x1 .f32) (h6 : M6.IsWhole)
    (M7 : Memref sig .tc .vmem S1x1 .f32) (h7 : M7.IsWhole) (M8 : Memref sig .tc .vmem S512x1 .f32) (h8 : M8.IsWhole)
    (f1 : Held (F := F) c M1) (f2 : Held (F := F) c M2) (f3 : Held (F := F) c M3) (f4 : Held (F := F) c M4)
    (f5 : Held (F := F) c M5) (f6 : Held (F := F) c M6) (f7 : Held (F := F) c M7) :
   M8.view.read (Elt F) (denseRun c i M1 h1 M2 h2 M3 h3 M4 h4 M5 h5 M6 h6 M7 h7 M8 h8 f1 f2 f3 f4 f5 f6 f7).1
     = k1_pay1 (M1.view.read (Elt F) f1) (M2.view.read (Elt F) f2) (M3.view.read (Elt F) f3) (M4.view.read (Elt F) f4) (M5.view.read (Elt F) f5) (M6.view.read (Elt F) f6) (M7.view.read (Elt F) f7) := by
  unfold denseRun
  dsimp only
  unfold denseRun.sl.H8_1
  rw [View.read_writes_full]
  rw [View.readAt_full, View.readAt_full, View.readAt_full, View.readAt_full, View.readAt_full, View.readAt_full, View.readAt_full]

omit [FloatOps F] in
/-- A whole buffer owned is the buffer held at a content that reads as stated. -/
theorem owns_held (c : Dev nD) {sp : Space} {S : Shape} {e : EltTy} (M : Memref sig .tc sp S e) (h : M.IsWhole) (X : S.Idx → Elt F e) :
    (owns (c : Thread nD τ) M fullShare X : sProp 𝕄) = iprop(∃ f : Held (F := F) c M, ⌜M.view.read (Elt F) f = X⌝ ∗ holds c M f) := by
  unfold owns; rw [h.set_eq_univ]

/-- The dense body over owned blocks: the seven inputs come back, the output block is the payload of the seven. -/
theorem dense_wp (c : Dev nD) (i : grid1.Coords)
    (M1 : Memref sig .tc .vmem S512x320 .f32) (h1 : M1.IsWhole) (M2 : Memref sig .tc .vmem S320x512 .f32) (h2 : M2.IsWhole)
    (M3 : Memref sig .tc .vmem S1x512 .f32) (h3 : M3.IsWhole) (M4 : Memref sig .tc .vmem S512x256 .f32) (h4 : M4.IsWhole)
    (M5 : Memref sig .tc .vmem S1x256 .f32) (h5 : M5.IsWhole) (M6 : Memref sig .tc .vmem S256x1 .f32) (h6 : M6.IsWhole)
    (M7 : Memref sig .tc .vmem S1x1 .f32) (h7 : M7.IsWhole) (M8 : Memref sig .tc .vmem S512x1 .f32) (h8 : M8.IsWhole)
    (X1 : S512x320.Idx → Elt F .f32) (X2 : S320x512.Idx → Elt F .f32) (X3 : S1x512.Idx → Elt F .f32) (X4 : S512x256.Idx → Elt F .f32)
    (X5 : S1x256.Idx → Elt F .f32) (X6 : S256x1.Idx → Elt F .f32) (X7 : S1x1.Idx → Elt F .f32) (X8 : S512x1.Idx → Elt F .f32)
    (E : Set ℕ) (Q : PUnit → sProp 𝕄) :
    iprop((owns (c : Thread nD τ) M1 fullShare X1 ∗ owns (c : Thread nD τ) M2 fullShare X2 ∗ owns (c : Thread nD τ) M3 fullShare X3
          ∗ owns (c : Thread nD τ) M4 fullShare X4 ∗ owns (c : Thread nD τ) M5 fullShare X5 ∗ owns (c : Thread nD τ) M6 fullShare X6
          ∗ owns (c : Thread nD τ) M7 fullShare X7 ∗ owns (c : Thread nD τ) M8 fullShare X8)
        ∗ ((owns (c : Thread nD τ) M1 fullShare X1 ∗ owns (c : Thread nD τ) M2 fullShare X2 ∗ owns (c : Thread nD τ) M3 fullShare X3
          ∗ owns (c : Thread nD τ) M4 fullShare X4 ∗ owns (c : Thread nD τ) M5 fullShare X5 ∗ owns (c : Thread nD τ) M6 fullShare X6
          ∗ owns (c : Thread nD τ) M7 fullShare X7 ∗ owns (c : Thread nD τ) M8 fullShare (k1_pay1 X1 X2 X3 X4 X5 X6 X7)) -∗ Q ⟨⟩))
      ⊢ wp frame (wpE (defs₀ (F := F)) Variants.none c none) E (cc1_body i M1 h1 M2 h2 M3 h3 M4 h4 M5 h5 M6 h6 M7 h7 M8 h8) Q := by
  rw [owns_held c M1 h1, owns_held c M2 h2, owns_held c M3 h3, owns_held c M4 h4, owns_held c M5 h5, owns_held c M6 h6, owns_held c M7 h7,
    owns_held c M8 h8 X8, owns_held c M8 h8 (k1_pay1 X1 X2 X3 X4 X5 X6 X7)]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩⟩, Hk⟩
  have hout := dense_out c i M1 h1 M2 h2 M3 h3 M4 h4 M5 h5 M6 h6 M7 h7 M8 h8 f1 f2 f3 f4 f5 f6 f7
  rw [e1, e2, e3, e4, e5, e6, e7] at hout
  iapply ((denseRun c i M1 h1 M2 h2 M3 h3 M4 h4 M5 h5 M6 h6 M7 h7 M8 h8 f1 f2 f3 f4 f5 f6 f7).2 f8 E Q)
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H1, H2, H3, H4, H5, H6, H7, H8⟩
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  iexists _; isplitr; (· ipureintro; exact hout); iexact H8

/-! ## The call as a region -/

section Region

variable (V : (c : Dev nD) → (b : Ref sig .tc) → Buf (Elt F) ((c : Thread nD τ).loc b))

/-- The block of window `w`'s array a fetch at point `t` stages. -/
abbrev staged (c : Dev nD) (w : Fin 8) (t : Fin cfg1.N) : ((cfg1.win w).xblock (cfg1.grid.coords t)).Idx → Elt F (cfg1.win w).elt :=
  ((cfg1.win w).blk t).view.read (Elt F) (V c (Pipeline.arrRef spec1 w))

/-- The block of the result at point `t`. -/
abbrev denseBlk (c : Dev nD) (t : Fin cfg1.N) : S512x1.Idx → Elt F .f32 :=
  k1_pay1 (staged V c 0 t) (staged V c 1 t) (staged V c 2 t) (staged V c 3 t) (staged V c 4 t) (staged V c 5 t) (staged V c 6 t)

/-- The pairs the TensorCore has recorded by then: all at or below the gather call's levels. -/
abbrev seen (c : Dev nD) : Set (SemLoc sig × HIx 1) := {p | (K (F := F)).lev ((c : Thread nD τ), p.1) p.2 ≤ 8}

/-- The region's proof data at entry contents `V`. -/
def denseDat (c : Dev nD) : Dat τ (Elt F) (HIx 1) ℕ UU ℕ cfg1 c where
  A w := V c (Pipeline.arrRef spec1 w)
  after w t := match w with
    | ⟨0, _⟩ => staged V c 0 t
    | ⟨1, _⟩ => staged V c 1 t
    | ⟨2, _⟩ => staged V c 2 t
    | ⟨3, _⟩ => staged V c 3 t
    | ⟨4, _⟩ => staged V c 4 t
    | ⟨5, _⟩ => staged V c 5 t
    | ⟨6, _⟩ => staged V c 6 t
    | ⟨7, _⟩ => denseBlk V c t
  Φ _ := Pipeline.scopedRest (Ix := HIx 1) (Name := ℕ) (U := UU) (Lvl := ℕ) (Val := Elt F) spec1 c
  q _ := fullShare
  owed _ := 0
  recorded _ := seen (F := F) c

theorem dense_before0 (c : Dev nD) (t : Fin cfg1.N) (d) : (denseDat V c).before 0 t d = staged V c 0 t :=
  (denseDat V c).before_in_eq_fetched 0 rfl (fun _ => rfl) (fun _ _ _ => rfl) (fun _ => rfl) t d
theorem dense_before1 (c : Dev nD) (t : Fin cfg1.N) (d) : (denseDat V c).before 1 t d = staged V c 1 t :=
  (denseDat V c).before_in_eq_fetched 1 rfl (fun _ => rfl) (fun _ _ _ => rfl) (fun _ => rfl) t d
theorem dense_before2 (c : Dev nD) (t : Fin cfg1.N) (d) : (denseDat V c).before 2 t d = staged V c 2 t :=
  (denseDat V c).before_in_eq_fetched 2 rfl (fun _ => rfl) (fun _ _ _ => rfl) (fun _ => rfl) t d
theorem dense_before3 (c : Dev nD) (t : Fin cfg1.N) (d) : (denseDat V c).before 3 t d = staged V c 3 t :=
  (denseDat V c).before_in_eq_fetched 3 rfl (fun _ => rfl) (fun _ _ _ => rfl) (fun _ => rfl) t d
theorem dense_before4 (c : Dev nD) (t : Fin cfg1.N) (d) : (denseDat V c).before 4 t d = staged V c 4 t :=
  (denseDat V c).before_in_eq_fetched 4 rfl (fun _ => rfl) (fun _ _ _ => rfl) (fun _ => rfl) t d
theorem dense_before5 (c : Dev nD) (t : Fin cfg1.N) (d) : (denseDat V c).before 5 t d = staged V c 5 t :=
  (denseDat V c).before_in_eq_fetched 5 rfl (fun _ => rfl) (fun _ _ _ => rfl) (fun _ => rfl) t d
theorem dense_before6 (c : Dev nD) (t : Fin cfg1.N) (d) : (denseDat V c).before 6 t d = staged V c 6 t :=
  (denseDat V c).before_in_eq_fetched 6 rfl (fun _ => rfl) (fun _ _ _ => rfl) (fun _ => rfl) t d

/-- The body at every point, from the staged blocks. -/
theorem dense_body (c : Dev nD) : BodyObligation (denseDat V c) (defs₀ (F := F)) 𝒱₀ (default : HIx 1) Set.univ := fun t => by
  rw [bigSep_W1, bigSep_W1]
  rw [show (denseDat V c).Φ t.succ = (denseDat V c).Φ t.castSucc from rfl,
    show (denseDat V c).owesAt (default : HIx 1) t.succ = (denseDat V c).owesAt default t.castSucc from rfl]
  simp only [dense_before0, dense_before1, dense_before2, dense_before3, dense_before4, dense_before5, dense_before6]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (dense_wp c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (st1_4 t) (hstage1_4 ((cfg1.slots t 4).cast nbuf1_4))
    (st1_5 t) (hstage1_5 ((cfg1.slots t 5).cast nbuf1_5)) (st1_6 t) (hstage1_6 ((cfg1.slots t 6).cast nbuf1_6)) (st1_7 t) (hstage1_7 ((cfg1.slots t 7).cast nbuf1_7))
    (staged V c 0 t) (staged V c 1 t) (staged V c 2 t) (staged V c 3 t) (staged V c 4 t) (staged V c 5 t) (staged V c 6 t) ((denseDat V c).before 7 t d7) Set.univ _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

variable (adm : (p : Fin 1) → (pcfgs (F := F) p).Adm)

/-- The proof data of the program's only pipeline. -/
def denseDats : (p : Fin 1) → (c : Dev nD) → Dat τ (Elt F) (HIx 1) ℕ UU ℕ (Pipeline.pin (pcfgs (F := F)) adm p) c
  | ⟨0, _⟩ => fun c => denseDat V c

/-- The result array as the write-backs leave it. -/
def denseOut (c : Dev nD) : Buf (Elt F) ((c : Thread nD τ).loc main_v6) := (denseDat V c).arrAt 7 cfg1.N

variable (Vp : (c : Dev nD) → (b : Ref sig .tc) → Buf (Elt F) ((c : Thread nD τ).loc b))

set_option backward.isDefEq.respectTransparency.types false in
/-- The region between two valuations of the core's buffers that differ at the result array. -/
def denseSeg (R : Dev nD → sProp 𝕄) (hout : ∀ c, Vp c main_v6 = denseOut V c) (hne : ∀ c (b : Ref sig .tc), b ≠ main_v6 → Vp c b = V c b) :
    Pipeline.RegionSeg (pcfgs (F := F)) adm (denseDats V adm) (default : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (dense_body V c).loose
  hwaits := Pipeline.hwaits_of_owed_zero _ _ _ _ (K (F := F)).L (K (F := F)).lev 0 fun _ _ => rfl
  pre c := iprop(unscopedBufs c (V c) ∗ R c ∗ Pipeline.owesWithin c (0 : CellTallies nD τ sig (HIx 1)) (seen (F := F) c))
  post c := iprop(unscopedBufs c (Vp c) ∗ R c ∗ Pipeline.owesWithin c (0 : CellTallies nD τ sig (HIx 1)) (seen (F := F) c))
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (denseDats V adm) (launch1).win (launch1).arr_whole c
      ((denseDats V adm 0 c).share_full fun _ => rfl) (V c) fun _ => rfl
    iintro ⟨⟨Hub, HR, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW hp)
      iexact HO
    isplitr; · iempintro
    isplitl [Hrest] <;> iassumption
  hin c := by
    rw [show (denseDats V adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (denseDats V adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (denseDats V adm) ((denseDats V adm 0 c).share_full fun _ => rfl) (V c) (Vp c) ((denseDats V adm 0 c).arrAt · cfg1.N)
      (fun w => by
        fin_cases w
        · exact ((denseDats V adm 0 c).arrAt_in 0 rfl _).trans (hne c main_v2 (by decide)).symm
        · exact ((denseDats V adm 0 c).arrAt_in 1 rfl _).trans (hne c main_arg2 (by decide)).symm
        · exact ((denseDats V adm 0 c).arrAt_in 2 rfl _).trans (hne c main_v3 (by decide)).symm
        · exact ((denseDats V adm 0 c).arrAt_in 3 rfl _).trans (hne c main_arg4 (by decide)).symm
        · exact ((denseDats V adm 0 c).arrAt_in 4 rfl _).trans (hne c main_v4 (by decide)).symm
        · exact ((denseDats V adm 0 c).arrAt_in 5 rfl _).trans (hne c main_arg6 (by decide)).symm
        · exact ((denseDats V adm 0 c).arrAt_in 6 rfl _).trans (hne c main_v5 (by decide)).symm
        · exact (hout c).symm)
      (fun b hb => hne c b fun h => hb (h ▸ Finset.mem_image.mpr ⟨7, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | ⟨w, s, h⟩
      · exact h
      · subst h; exact Nat.zero_le _
    iexact HO

/-- The only choice of prefetched tables: none. -/
abbrev adm₀ : (p : Fin 1) → (pcfgs (F := F) p).Adm := fun p => (cfgs p).toPCfg_adm

/-- Where the staging protocol's ghost state lies: beside the launch's. -/
abbrev ER : Emb (UR sig nD τ) (MT nD τ sig (HIx 1) (Elt F) ℕ UU ℕ) := (Emb.inl : Emb (UR sig nD τ) (UR sig nD τ × Counters)).trans embR

omit [FloatOps F] in
theorem er_lands : (ER (F := F)).LandsIn (upEmb : UEmb _ 𝕄) := by infer_instance

/-- The staging protocol's ghost state on a core. -/
abbrev dealt (c : Dev nD) : sProp 𝕄 :=
  iprop(Pipeline.cellsGhost (Pipeline.pin (pcfgs (F := F)) adm₀) ER 0 c ∗ Pipeline.toksInit (Pipeline.pin (pcfgs (F := F)) adm₀) ER 0 c)

/-- The call as the program makes it: from the core's buffers at `V`, what it owes nothing of, the levels and the
    protocol's ghost state, it returns with the result array written. -/
theorem dense_call (R : Dev nD → sProp 𝕄) (hout : ∀ c, Vp c main_v6 = denseOut V c) (hne : ∀ c (b : Ref sig .tc), b ≠ main_v6 → Vp c b = V c b)
    (c : Dev nD) (Q : PUnit → sProp 𝕄) :
    iprop((iprop(boundary (c : Thread nD τ) ∗ unscopedBufs c (Vp c) ∗ R c ∗ Pipeline.owesWithin c (0 : CellTallies nD τ sig (HIx 1)) (seen (F := F) c)) -∗ Q ⟨⟩)
        ∗ boundary (c : Thread nD τ) ∗ (unscopedBufs c (V c) ∗ R c ∗ Pipeline.owesWithin c (0 : CellTallies nD τ sig (HIx 1)) (seen (F := F) c))
        ∗ levAts (K (F := F)).L (K (F := F)).lev ∗ dealt (F := F) c)
      ⊢ wp frame (wpE ((K (F := F)).defs (D (F := F))) 𝒱 (c : Thread nD τ) none) Set.univ
          (Prog.lift (.customCall (SparseCore.inner (Pipeline.entry 0)) ())) Q := by
  have hl := (K (F := F)).wp_liftProg (D (F := F)) 𝒱 (c : Thread nD τ) Set.univ none
    (Prog.op (TpuEff.customCall (Pipeline.entry 0) ()) (fun x : PUnit => Prog.ret x) : Prog (TpuEff nD τ sig (Elt F) (ΛP (F := F)) .tc) PUnit) Q
  have h := Pipeline.RegionSeg.wp (pcfgs (F := F)) adm₀ (denseDats V adm₀) (default : HIx 1) cellOf_inj (ER (F := F)) defs₀ 𝒱₀ (K (F := F)).L (K (F := F)).lev
    (denseSeg V adm₀ Vp R hout hne) c none (fun u hu => nomatch hu) (fun x : PUnit => Prog.ret x) Q
  rw [show (denseSeg V adm₀ Vp R hout hne).pre c
    = iprop(unscopedBufs c (V c) ∗ R c ∗ Pipeline.owesWithin c (0 : CellTallies nD τ sig (HIx 1)) (seen (F := F) c)) from rfl] at h
  iintro ⟨Hk, Hb, Hpre, Hl, Hg⟩
  iapply hl
  iapply h
  isplitl [Hk]
  · iintro H; rw [wp_ret]; imodintro; iapply Hk; iexact H
  isplitl [Hb]; · iexact Hb
  isplitl [Hpre]; · iexact Hpre
  isplitl [Hl]; · iexact Hl
  iexact Hg

end Region

end Cert.Proof.Tile

end
-- ==== Proof.Main.lean ====
/-
  The program's run: the list flattened, the rows gathered by the tiles, the rows and the biases laid out for the dense
  layers, the dense layers; with what every buffer holds at the end.
-/
module

public import proofs.«01_k».proof.Proof.Deal
public import proofs.«01_k».proof.Proof.Region
public import Idealize.ShloMosaic.Lib.SparseCore.Quiescent
public import Idealize.ShloMosaic.Lib.Pipeline.Frame

@[expose] public section

set_option maxRecDepth 16384

noncomputable section

namespace Cert.Proof.Tile

open Cert.KernelIdeal Cert.KernelIdeal.Gen
open Idealize.ShloMosaic Idealize.ShloMosaic.Transfers
open Idealize.ShloMosaic.SparseCore (S V T rows gatherPayload)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Streams
open Idealize.ShloMosaic
open Idealize.ShloMosaic.TcCoe Idealize.ShloMosaic.Tactic
open Idealize.ShloMosaic.SparseCore.Cfg (HIx)
open Idealize.ShloMosaic.Rounds
open Idealize.ShloMosaic.Pipeline (Dat Cfg Window BodyObligation cellOf)

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S327680 EltTy.i32)
local notation "xV" => (Memref.whole Cert.KernelIdeal.main_arg1_scv : Memref Cert.KernelIdeal.sig Kind.scVector Space.hbm Cert.KernelIdeal.S1000000x16 EltTy.f32)
local notation "oV" => (Memref.whole Cert.KernelIdeal.main_v1_scv : Memref Cert.KernelIdeal.sig Kind.scVector Space.hbm Cert.KernelIdeal.S327680x16 EltTy.f32)
local notation "sV" => (Memref.whole Cert.KernelIdeal.cc0_scratch0 : Memref Cert.KernelIdeal.sig Kind.scVector Space.vmem Cert.KernelIdeal.S10240 EltTy.i32)
local notation "rV" => (Memref.whole Cert.KernelIdeal.cc0_scratch1 : Memref Cert.KernelIdeal.sig Kind.scVector Space.vmem Cert.KernelIdeal.S2048x16 EltTy.f32)

variable [FloatOps F]
variable (m : (ℓ : Loc nD τ sig) → Buf (Elt F) ℓ) (ρ : Dev nD → PrngReg)

/-! ## What the buffers hold, step by step -/

/-- The operations of the host, in the order in which the program makes them. -/
abbrev opList : HloOp τ sig (Elt F) := StableHlo.reshape main_arg0 main_v0 (rfl : (.i32 : EltTy) = .i32) shapeCasts_S16384x20_S327680
abbrev opRows : HloOp τ sig (Elt F) := StableHlo.reshape main_v1 main_v2 (rfl : (.f32 : EltTy) = .f32) shapeCasts_S327680x16_S16384x320
abbrev opBias1 : HloOp τ sig (Elt F) := StableHlo.reshape main_arg3 main_v3 (rfl : (.f32 : EltTy) = .f32) shapeCasts_S512_S1x512
abbrev opBias2 : HloOp τ sig (Elt F) := StableHlo.reshape main_arg5 main_v4 (rfl : (.f32 : EltTy) = .f32) shapeCasts_S256_S1x256
abbrev opBias3 : HloOp τ sig (Elt F) := StableHlo.reshape main_arg7 main_v5 (rfl : (.f32 : EltTy) = .f32) shapeCasts_S1_S1x1

/-- The buffers at the launch, -/
def val0 (d : Dev nD) : Valuation τ sig (Elt F) := fun b => m (d, b)
/-- with the list flattened, -/
def val1 (d : Dev nD) : Valuation τ sig (Elt F) := (opList (F := F)).result (val0 m d)
/-- the table, -/
def tabOf (d : Dev nD) : S1000000x16.Idx → Elt F .f32 := m (xLoc d)
/-- the flat list, -/
def listOf (d : Dev nD) : S327680.Idx → BitVec 32 := val1 m d main_v0
/-- what the gathered array held before, -/
def oldOf (d : Dev nD) : S327680x16.Idx → Elt F .f32 := m (oLoc d)
/-- with the rows gathered, -/
def val2 (d : Dev nD) : Valuation τ sig (Elt F) := Function.update (val1 m d) (Proc.devRef .tc main_v1) (gath (tabOf m d) (listOf m d))
/-- with the rows put side by side and the biases made rows, -/
def val3 (d : Dev nD) : Valuation τ sig (Elt F) :=
  (opBias3 (F := F)).result ((opBias2 (F := F)).result ((opBias1 (F := F)).result ((opRows (F := F)).result (val2 m d))))
/-- as the dense layers find them, by reference, -/
def bufs3 (c : Dev nD) (b : Ref sig .tc) : Buf (Elt F) ((c : Thread nD τ).loc b) := val3 m c b
/-- and with their result. -/
def val4 (d : Dev nD) : Valuation τ sig (Elt F) := Function.update (val3 m d) (Proc.devRef .tc main_v6) (denseOut (bufs3 m) d)
def bufs4 (c : Dev nD) (b : Ref sig .tc) : Buf (Elt F) ((c : Thread nD τ).loc b) := val4 m c b

/-! ## The steps of the host -/

/-- One operation of the host on the buffers that are not scoped. -/
theorem host_step (d : Dev nD) (op : HloOp τ sig (Elt F)) (hop : op.bufs ⊆ StableHlo.tcRefs τ sig) (hfr : op.fresh = ∅)
    (W : Valuation τ sig (Elt F)) (Q : PUnit → sProp 𝕄) :
    iprop(boundary (SparseCore.T d) ∗ unscopedBufs d (fun b => W b)
        ∗ ((boundary (SparseCore.T d) ∗ unscopedBufs d (fun b => op.result W b)) -∗ Q ⟨⟩))
      ⊢ wp frame (wpE ((K (F := F)).defs (D (F := F))) 𝒱 (SparseCore.T d) none) Set.univ (hlo rfl op (fun _ => .ret ⟨⟩)) Q := by
  rw [Pipeline.unscopedBufs_held, Pipeline.unscopedBufs_held]
  iintro ⟨Hb, Hu, Hk⟩
  iapply (StableHlo.wp_hlo_within (defs := (K (F := F)).defs (D (F := F))) 𝒱 (SparseCore.T d) none Set.univ (op := op) (Pipeline.sub_ucRefs op hop) (V := W) hfr) $$ [Hb Hu]
  · isplitl [Hb]; · iexact Hb
    iexact Hu
  iintro H
  rw [wp_ret]
  imodintro
  iapply Hk; iexact H

/-- The buffers apart from the list, the table and the gathered array. -/
abbrev others : Finset (Ref sig .tc) := (Finset.univ.filter fun b : Ref sig .tc => ¬ b.isScoped) \ {main_v0, main_arg1, main_v1}

omit [FloatOps F] in
theorem take_out (d : Dev nD) (W : (b : Ref sig .tc) → Buf (Elt F) ((d : Thread nD τ).loc b)) :
    (unscopedBufs d W : sProp 𝕄) = iprop(((iLoc d ↦{fullShare} W main_v0) ∗ (xLoc d ↦{fullShare} W main_arg1) ∗ oLoc d ↦{fullShare} W main_v1)
      ∗ bigSep others fun b => ((d : Thread nD τ).loc b) ↦{fullShare} W b) := by
  unfold unscopedBufs
  conv_lhs => rw [← Finset.union_sdiff_of_subset (show ({main_v0, main_arg1, main_v1} : Finset (Ref sig .tc)) ⊆ Finset.univ.filter fun b : Ref sig .tc => ¬ b.isScoped by decide)]
  rw [bigSep_union Finset.disjoint_sdiff, SparseCore.bigSep_insert' (by decide), SparseCore.bigSep_insert' (by decide), bigSep_singleton]
  rfl

theorem val1_arg1 (d : Dev nD) : val1 m d main_arg1 = tabOf m d :=
  StableHlo.reshape_result_ne main_arg0 main_v0 _ _ _ _ (val0 m d) (by decide)
theorem val1_v1 (d : Dev nD) : val1 m d main_v1 = oldOf m d :=
  StableHlo.reshape_result_ne main_arg0 main_v0 _ _ _ _ (val0 m d) (by decide)
theorem val2_v1 (d : Dev nD) : val2 m d main_v1 = gath (tabOf m d) (listOf m d) := Function.update_self ..
theorem val2_ne (d : Dev nD) {b : Ref sig .tc} (h : b ≠ main_v1) : val2 m d b = val1 m d b :=
  Function.update_of_ne (StableHlo.devRef_ne_of_ne h) ..

theorem take_out1 (d : Dev nD) : (unscopedBufs d (fun b => val1 m d b) : sProp 𝕄)
    = iprop((bigSep Finset.univ fun c : Fin 2 => coreTasks (tabOf m) (listOf m) d c (oldOf m d))
      ∗ bigSep others fun b => ((d : Thread nD τ).loc b) ↦{fullShare} val1 m d b) := by
  rw [take_out, dealt_out, val1_arg1, val1_v1]
  rfl

theorem take_out2 (d : Dev nD) : (unscopedBufs d (fun b => val2 m d b) : sProp 𝕄)
    = iprop((bigSep Finset.univ fun c : Fin 2 => coreTasks (tabOf m) (listOf m) d c (gath (tabOf m d) (listOf m d)))
      ∗ bigSep others fun b => ((d : Thread nD τ).loc b) ↦{fullShare} val1 m d b) := by
  rw [take_out, dealt_out, val2_v1, val2_ne m d (by decide), val2_ne m d (by decide), val1_arg1,
    bigSep_congr (s := others) (Ψ := fun b => ((d : Thread nD τ).loc b) ↦{fullShare} val1 m d b)
      (fun b hb => by rw [val2_ne m d (fun e => (Finset.mem_sdiff.mp hb).2 (by rw [e]; decide))])]
  rfl

/-! ## The ghost state at the launch -/

abbrev P₀ := P (tabOf m) (listOf m) (oldOf m)

def u₀ : UU :=
  (initOf (K (F := F)).hsCells (K (F := F)).hsToks,
    (initOf (Pipeline.cells (Pipeline.pin (pcfgs (F := F)) adm₀) cellOf_inj) (Pipeline.launchToks (Pipeline.pin (pcfgs (F := F)) adm₀) cellOf_inj), 1))

theorem ghost_dealt : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 1 => (P₀ m).x q thr) := by
  have hx : (bigSep Finset.univ fun thr : Thread nD τ => bigSep Finset.univ fun q : Fin 1 => (P₀ (F := F) m).x q thr) = (iprop(emp) : sProp 𝕄) :=
    (bigSep_congr fun _ _ => bigSep_univ_of_subsingleton (0 : Fin 1)).trans (bigSep_emp_const _)
  have hp : iprop((bigSep Finset.univ fun c : Dev nD => bigSep Finset.univ fun p => Pipeline.cellsGhost (Pipeline.pin (pcfgs (F := F)) adm₀) ER p c)
      ∗ (bigSep Finset.univ fun c : Dev nD => bigSep Finset.univ fun p => Pipeline.toksInit (Pipeline.pin (pcfgs (F := F)) adm₀) ER p c))
      = (bigSep Finset.univ fun d : Dev nD => dealt (F := F) d : sProp 𝕄) := by
    rw [← bigSep_sep']
    refine bigSep_congr fun c _ => ?_
    rw [bigSep_univ_of_subsingleton (0 : Fin 1), bigSep_univ_of_subsingleton (0 : Fin 1)]
  unfold u₀
  rw [hx]
  iintro Hu
  ihave H := (ownU_pair (initOf (K (F := F)).hsCells (K (F := F)).hsToks) _) $$ Hu
  icases H with ⟨HH, Hr⟩
  ihave H' := (own_pair_emb embR (initOf (Pipeline.cells (Pipeline.pin (pcfgs (F := F)) adm₀) cellOf_inj) (Pipeline.launchToks (Pipeline.pin (pcfgs (F := F)) adm₀) cellOf_inj)) (1 : Counters)) $$ Hr
  icases H' with ⟨Hr, -⟩
  imod (Pipeline.fund_ghost (Pipeline.pin (pcfgs (F := F)) adm₀) (ER (F := F)) cellOf_inj) $$ Hr with Hr
  imodintro
  isplitl [HH]; · iexact HH
  isplitl [Hr]; · iapply (Entails.of_eq hp); iexact Hr
  iempintro

/-! ## The program on the TensorCore -/

theorem start_eq (d : Dev nD) : (bigSep Finset.univ fun c : Fin ((K (F := F)).nCore 0) => (P₀ m).st 0 d c)
    = (bigSep Finset.univ fun c : Fin 2 => coreTasks (tabOf m) (listOf m) d c (oldOf m d) : sProp 𝕄) := rfl
theorem done_eq (d : Dev nD) : (bigSep Finset.univ fun c : Fin ((K (F := F)).nCore 0) => (P₀ m).dn 0 d c)
    = (bigSep Finset.univ fun c : Fin 2 => coreTasks (tabOf m) (listOf m) d c (gath (tabOf m d) (listOf m d)) : sProp 𝕄) := rfl

theorem bufs4_v6 (d : Dev nD) : bufs4 m d main_v6 = denseOut (bufs3 m) d := by
  unfold bufs4 val4; exact Function.update_self ..
theorem bufs4_ne (d : Dev nD) {b : Ref sig .tc} (h : b ≠ main_v6) : bufs4 m d b = bufs3 m d b := by
  unfold bufs4 val4; exact Function.update_of_ne (StableHlo.devRef_ne_of_ne h) ..

/-- What a core ends with: its buffers, the dense layers' result among them. -/
abbrev FIN (d : Dev nD) : sProp 𝕄 := unscopedBufs d (bufs4 m d)

theorem on_core (κ : GSem nD τ sig → ℕ) (d : Dev nD) :
    iprop((K (F := F)).ctx EH (P₀ m) κ ∗ (K (F := F)).tcSt EH d 0 ∗ (K (F := F)).tcRes m ρ d ∗ dealt (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hu, Hts, -⟩, Hg⟩
  iapply (host_step d opList (StableHlo.reshape_bufs_sub ..) rfl (val0 m d))
  isplitl [Hb]; · iexact Hb
  isplitl [Hu]; · iexact Hu
  iintro ⟨Hb, Hu⟩
  ihave Hu' := (Entails.of_eq (show (unscopedBufs d (fun b => (opList (F := F)).result (val0 m d) b) : sProp 𝕄) = _ from take_out1 m d)) $$ Hu
  icases Hu' with ⟨Hst0, Hoth⟩
  iapply ((K (F := F)).wp_run (D (F := F)) 𝒱 (EH := EH) (P := P₀ m) κ d 0) $$ [Hst Hst0 Hoth Hb Hts Hg]
  isplitr; · iexact Hctx
  isplitl [Hst]; · iexact Hst
  isplitl [Hst0]
  · iapply (Entails.of_eq (start_eq m d).symm); iexact Hst0
  iintro ⟨Hst, Hdn⟩
  ihave Hdn' := (Entails.of_eq (done_eq m d)) $$ Hdn
  ihave Hu := (Entails.of_eq (take_out2 m d).symm) $$ [Hdn' Hoth]
  · isplitl [Hdn'] <;> iassumption
  iapply (host_step d opRows (StableHlo.reshape_bufs_sub ..) rfl (val2 m d))
  isplitl [Hb]; · iexact Hb
  isplitl [Hu]; · iexact Hu
  iintro ⟨Hb, Hu⟩
  iapply (host_step d opBias1 (StableHlo.reshape_bufs_sub ..) rfl _)
  isplitl [Hb]; · iexact Hb
  isplitl [Hu]; · iexact Hu
  iintro ⟨Hb, Hu⟩
  iapply (host_step d opBias2 (StableHlo.reshape_bufs_sub ..) rfl _)
  isplitl [Hb]; · iexact Hb
  isplitl [Hu]; · iexact Hu
  iintro ⟨Hb, Hu⟩
  iapply (host_step d opBias3 (StableHlo.reshape_bufs_sub ..) rfl _)
  isplitl [Hb]; · iexact Hb
  isplitl [Hu]; · iexact Hu
  iintro ⟨Hb, Hu⟩
  ihave Hu := (Entails.of_eq (show (unscopedBufs d (fun b => (opBias3 (F := F)).result ((opBias2 (F := F)).result ((opBias1 (F := F)).result
    ((opRows (F := F)).result (val2 m d)))) b) : sProp 𝕄) = unscopedBufs d (bufs3 m d) from rfl)) $$ Hu
  unfold SparseCore.Cfg.tcSt
  icases Hst with ⟨⟨%W, %hW, Ho⟩, Hst⟩
  rw [show (K (F := F)).Otc d ((0 : Fin 1).val + 1) = 0 from (K (F := F)).Otc_end d (le_refl 1), (K (F := F)).Otc_end d (le_refl 1)]
  ihave #Hlev := (SparseCore.Cfg.ctx_levAts κ) $$ Hctx
  iapply (dense_call (bufs3 m) (bufs4 m) (fun _ => iprop(emp)) (bufs4_v6 m) (fun c b hb => bufs4_ne m c hb) d)
  isplitr [Hb Hu Ho Hg]
  · iintro ⟨Hb, Hu, -, Ho⟩
    icases Ho with ⟨%W', %hW', Ho⟩
    imodintro
    isplitl [Ho Hst]
    · isplitl [Ho]
      · iexists W'
        isplitr; · ipureintro; exact fun p hp => hW' hp
        iexact Ho
      iexact Hst
    isplitl [Hu]; · iexact Hu
    isplitl [Hb] <;> iassumption
  isplitl [Hb]; · iexact Hb
  isplitl [Hu Ho]
  · isplitl [Hu]; · iexact Hu
    isplitr; · iempintro
    iexists W
    isplitr; · ipureintro; exact fun p hp => hW p hp
    iexact Ho
  isplitr; · iexact Hlev
  iexact Hg

/-- What the end of the run says of a device: each buffer that is not scoped holds what was computed. -/
def fin (d : Dev nD) (s' : Phys nD τ sig (Elt F)) : Prop :=
  ∀ b : Ref sig .tc, b ∈ (Finset.univ.filter fun b : Ref sig .tc => ¬ b.isScoped) → s'.mem.mem ((d : Thread nD τ).loc b) = bufs4 m d b

set_option maxRecDepth 16384 in
theorem fin_read (d : Dev nD) (s' : Phys nD τ sig (Elt F)) : iprop(FIN m d ∗ SI s') ⊢ (⌜fin m d s'⌝ : sProp 𝕄) := by
  unfold fin
  refine (Laws.forall_intro fun b => ?_).trans Laws.pure_forall.2
  refine (Laws.forall_intro fun hb => ?_).trans Laws.pure_forall.2
  have ht : (FIN m d : sProp 𝕄) ⊢ ((d : Thread nD τ).loc b) ↦{fullShare} bufs4 m d b := bigSep_elim hb
  iintro ⟨Hu, HSI⟩
  ihave Hb := ht $$ Hu
  ihave H := (SI_pointsTo_agree (st := s') (ℓ := (d : Thread nD τ).loc b) (I := Finset.univ) (q := fullShare) (f := bufs4 m d b)) $$ [HSI Hb]
  · isplitl [HSI] <;> iassumption
  icases H with %h
  ipureintro; exact funext fun i => h i (Finset.mem_univ i)

/-! ## The run -/

/-- The list's words name rows of the table. -/
def InRange : Prop := ∀ (d : Dev nD) (j : S16384x20.Idx), (m ((d : Thread nD τ).loc main_arg0) j).toNat < 1000000

theorem listOf_eq (d : Dev nD) : listOf m d = shapeCast S327680 (m ((d : Thread nD τ).loc main_arg0)) shapeCasts_S16384x20_S327680 := by
  unfold listOf val1; exact StableHlo.reshape_result main_arg0 main_v0 _ _ _ _ (val0 m d)

theorem list_inTable (h : InRange m) (d : Dev nD) (L) : InTable (chunk (listOf m d) L) := by
  intro x
  rw [listOf_eq]
  exact h d _

/-- Every run ends with every semaphore at zero and each buffer of the program as computed. -/
theorem run_main [∀ e, Nonempty (Elt F e)] (h : InRange m) :
    θ_run (defs (F := F)) (threads (F := F)) ⟨m, fun _ => 0, ρ⟩ (fun r => (∀ (d : Dev nD) (b : Ref sig .tc),
      b ∈ (Finset.univ.filter fun b : Ref sig .tc => ¬ b.isScoped) → r.2.mem ((d : Thread nD τ).loc b) = bufs4 m d b) ∧ r.2.sem = fun _ => 0) :=
  SparseCore.Cfg.θ_run_sc_quiescent (K := K (F := F)) (D := D (F := F)) (𝒱 := 𝒱) (EH := EH) (P := P₀ m) (A := ∅) facts v₀
    (fun q hq => match q with | 0 => nomatch hq)
    (fun q _ => match q with | 0 => tileObl _ _ _ facts (list_inTable m h))
    (fun q _ => match q with | 0 => SparseCore.Cfg.VecSplit.of_plain (vecSplit _ _ _))
    m ρ main (fun d => dealt (F := F) d) (FIN m) (u₀ (F := F)) (sep_elim_left.trans (ghost_dealt m)) (on_core m ρ) (fin m) (fin_read m) _
    (fun _ h hz => ⟨h, hz⟩)

/-- A buffer that no step writes ends as it was. -/
theorem bufs4_kept (d : Dev nD) {b : Ref sig .tc} (h : b ∉ ({main_v0, main_v1, main_v2, main_v3, main_v4, main_v5, main_v6} : Finset (Ref sig .tc))) :
    bufs4 m d b = m ((d : Thread nD τ).loc b) := by
  simp only [Finset.mem_insert, Finset.mem_singleton, not_or] at h
  obtain ⟨h0, h1, h2, h3, h4, h5, h6⟩ := h
  rw [bufs4_ne m d h6]
  unfold bufs3 val3
  rw [StableHlo.reshape_result_ne _ _ _ _ _ _ _ h5, StableHlo.reshape_result_ne _ _ _ _ _ _ _ h4, StableHlo.reshape_result_ne _ _ _ _ _ _ _ h3,
    StableHlo.reshape_result_ne _ _ _ _ _ _ _ h2, val2_ne m d h1]
  exact StableHlo.reshape_result_ne _ _ _ _ _ _ _ h0

end Cert.Proof.Tile

end
-- ==== Proof.Frames.lean ====
/-
  The three programs run, leave their arguments as they were and every semaphore at zero.
-/
module

public import proofs.«01_k».proof.Defs
public import proofs.«01_k».proof.Proof.Main
public import proofs.«01_k».proof.Proof.Gen.Kernel
public import proofs.«01_k».proof.Proof.Gen.Pre_in_range
public import proofs.«01_k».proof.Proof.Gen.ReferenceIdeal.Run
public import Idealize.ShloMosaic.Lib.ReduceAll

@[expose] public section

set_option maxRecDepth 16384

noncomputable section

namespace Cert.Proof.Frames

open Idealize.ShloMosaic Idealize.ShloMosaic.TcCoe Idealize.SL.Sem Cert.Proof.Tile

/-- A word that is at least zero and below a million as a signed word is so as a number. -/
theorem word_in_range (v : BitVec 32) (e : IntOp.andi (IntOp.cmpi .sge v 0#32) (IntOp.cmpi .slt v 1000000#32) = 1#1) : v.toNat < 1000000 := by
  obtain ⟨h0, h1⟩ := IntOp.andi_eq_one.1 e
  have one (p : Bool) : (BitVec.ofBool p = 1#1) ↔ p = true := by cases p <;> decide
  simp only [IntOp.cmpi, one, BitVec.sle_eq_decide, BitVec.slt_eq_decide,
    decide_eq_true_eq, BitVec.toInt_eq_toNat_cond, BitVec.toNat_ofNat, Nat.reducePow, Nat.reduceMod] at h0 h1
  omega

/-- What the precondition says of the words of the list. -/
theorem words_in_range {F : FTy → Type} [FloatOps F] (a0 a1 a2 a3 a4 a5 a6 a7)
    (h : Cert.Pre_in_range.fn (F := F) a0 a1 a2 a3 a4 a5 a6 a7 = fun _ => 1#1) (j : Cert.Pre_in_range.S16384x20.Idx) : (a0 j).toNat < 1000000 := by
  have e := congrFun h (fun a => a.elim0)
  simp only [Cert.Pre_in_range.fn] at e
  haveI : Subsingleton (Cert.Pre_in_range.S_).Idx := ⟨fun a b => funext fun k => k.elim0⟩
  exact word_in_range _ (Host.reduce_andi_all _ _ _ _ _ e j)

/-- What a run of the kernel leaves, at the program's arguments: each as it was, and every semaphore at zero. -/
theorem args_kept {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (d : Dev Cert.KernelIdeal.nD)
    (h : ∀ b : Ref Cert.KernelIdeal.sig .tc, b ∈ (Finset.univ.filter fun b : Ref Cert.KernelIdeal.sig .tc => ¬ b.isScoped)
      → r.2.mem ((d : Thread Cert.KernelIdeal.nD Cert.KernelIdeal.τ).loc b) = bufs4 m d b) :
    r.2.mem ((d.tc : Thread Cert.KernelIdeal.nD Cert.KernelIdeal.τ).loc Cert.KernelIdeal.main_arg0) = m ((d.tc : Thread Cert.KernelIdeal.nD Cert.KernelIdeal.τ).loc Cert.KernelIdeal.main_arg0)
    ∧ r.2.mem ((d.tc : Thread Cert.KernelIdeal.nD Cert.KernelIdeal.τ).loc Cert.KernelIdeal.main_arg1) = m ((d.tc : Thread Cert.KernelIdeal.nD Cert.KernelIdeal.τ).loc Cert.KernelIdeal.main_arg1)
    ∧ r.2.mem ((d.tc : Thread Cert.KernelIdeal.nD Cert.KernelIdeal.τ).loc Cert.KernelIdeal.main_arg2) = m ((d.tc : Thread Cert.KernelIdeal.nD Cert.KernelIdeal.τ).loc Cert.KernelIdeal.main_arg2)
    ∧ r.2.mem ((d.tc : Thread Cert.KernelIdeal.nD Cert.KernelIdeal.τ).loc Cert.KernelIdeal.main_arg3) = m ((d.tc : Thread Cert.KernelIdeal.nD Cert.KernelIdeal.τ).loc Cert.KernelIdeal.main_arg3)
    ∧ r.2.mem ((d.tc : Thread Cert.KernelIdeal.nD Cert.KernelIdeal.τ).loc Cert.KernelIdeal.main_arg4) = m ((d.tc : Thread Cert.KernelIdeal.nD Cert.KernelIdeal.τ).loc Cert.KernelIdeal.main_arg4)
    ∧ r.2.mem ((d.tc : Thread Cert.KernelIdeal.nD Cert.KernelIdeal.τ).loc Cert.KernelIdeal.main_arg5) = m ((d.tc : Thread Cert.KernelIdeal.nD Cert.KernelIdeal.τ).loc Cert.KernelIdeal.main_arg5)
    ∧ r.2.mem ((d.tc : Thread Cert.KernelIdeal.nD Cert.KernelIdeal.τ).loc Cert.KernelIdeal.main_arg6) = m ((d.tc : Thread Cert.KernelIdeal.nD Cert.KernelIdeal.τ).loc Cert.KernelIdeal.main_arg6)
    ∧ r.2.mem ((d.tc : Thread Cert.KernelIdeal.nD Cert.KernelIdeal.τ).loc Cert.KernelIdeal.main_arg7) = m ((d.tc : Thread Cert.KernelIdeal.nD Cert.KernelIdeal.τ).loc Cert.KernelIdeal.main_arg7) :=
  ⟨(h Cert.KernelIdeal.main_arg0 (by decide)).trans (bufs4_kept m d (by decide)),
    (h Cert.KernelIdeal.main_arg1 (by decide)).trans (bufs4_kept m d (by decide)),
    (h Cert.KernelIdeal.main_arg2 (by decide)).trans (bufs4_kept m d (by decide)),
    (h Cert.KernelIdeal.main_arg3 (by decide)).trans (bufs4_kept m d (by decide)),
    (h Cert.KernelIdeal.main_arg4 (by decide)).trans (bufs4_kept m d (by decide)),
    (h Cert.KernelIdeal.main_arg5 (by decide)).trans (bufs4_kept m d (by decide)),
    (h Cert.KernelIdeal.main_arg6 (by decide)).trans (bufs4_kept m d (by decide)),
    (h Cert.KernelIdeal.main_arg7 (by decide)).trans (bufs4_kept m d (by decide))⟩

theorem frame_ideal : Cert.quiescent_KernelIdeal (hKernelIdeal := Cert.KernelIdeal.Gen.facts) (hPre_in_range := Cert.Pre_in_range.Gen.facts) := fun m ρ hpre =>
  (θ_run Cert.KernelIdeal.defs _ _).mono (fun r h => ⟨fun d => args_kept m r d (h.1 d), h.2⟩)
    (run_main (F := Ideal) m ρ fun d j => words_in_range _ _ _ _ _ _ _ _ (hpre d) j)

/-- The program and its reading over the extended reals are one text: the kernels' bodies are the same, -/
theorem bodies_same {F : FTy → Type} [FloatOps F] : Cert.Kernel.defs₀ (F := F) = Cert.KernelIdeal.defs₀ := by
  funext p ℓ a
  match p, ℓ, a with
  | .scVector c s, 0, _ => rfl
  | .scVector c s, 1, _ => rfl
  | .tc, 0, _ => rfl
  | .tc, 1, (t, s) => rfl
  | .scScalar c, 0, _ => rfl
  | .scScalar c, 1, _ => rfl

/-- and so is what each label runs. -/
theorem defs_same {F : FTy → Type} [FloatOps F] : Cert.Kernel.defs (F := F) = Cert.KernelIdeal.defs :=
  congrArg (fun d => (Cert.KernelIdeal.sc (F := F)).defs (Pipeline.defs Cert.KernelIdeal.pcfgs d)) bodies_same

theorem frame_kernel : Cert.quiescent_Kernel (hKernel := Cert.Kernel.Gen.facts) (hPre_in_range := Cert.Pre_in_range.Gen.facts) := fun m ρ hpre => by
  rw [defs_same]
  exact (θ_run Cert.KernelIdeal.defs _ _).mono (fun r h => ⟨fun d => args_kept m r d (h.1 d), h.2⟩)
    (run_main (F := Bits) m ρ fun d j => words_in_range _ _ _ _ _ _ _ _ (hpre d) j)

theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Frames

end
-- ==== Proof.Layers.lean ====
/-
  The dense layers over the extended reals, a row at a time: the kernel's block of rows and the reference's whole arrays
  both compute, of each row alone, the same function of that row.
-/
module

public import proofs.«01_k».proof.Proof.Gen.KernelIdeal.Skeleton
public import proofs.«01_k».proof.Proof.Gen.ReferenceIdeal.Run
public import Idealize.ShloMosaic.Lib.Pointwise
public import Idealize.ShloMosaic.Lib.Tactic.CleanTypes
public import Idealize.ShloMosaic.Lib.Tactic.WordOmega
public import Idealize.ShloMosaic.Lib.ReduceAll

@[expose] public section

set_option maxRecDepth 16384

noncomputable section

namespace Cert.Proof.Layers

open Idealize.ShloMosaic

/-- The slope, a fifth as a 32-bit float has it. -/
abbrev slope : Ideal .f32 := Ideal.ofBits .f32 0x3E4CCCCD#32

/-- The activation: the value itself where it is positive, the slope times it elsewhere. -/
def bend (x : EReal) : EReal := if 0 < x then x else slope * x

/-- The three layers of one row. -/
def dense (x : Fin 320 → EReal) (W1 : Fin 320 → Fin 512 → EReal) (b1 : Fin 512 → EReal) (W2 : Fin 512 → Fin 256 → EReal) (b2 : Fin 256 → EReal)
    (W3 : Fin 256 → EReal) (b3 : EReal) : EReal :=
  (∑ l, bend ((∑ k, bend ((∑ i, x i * W1 i k) + b1 k) * W2 k l) + b2 l) * W3 l) + b3

/-- The layers depend on the entries of the row, the weights and the biases alone. -/
theorem dense_congr {x x' : Fin 320 → EReal} {W1 W1' : Fin 320 → Fin 512 → EReal} {b1 b1' : Fin 512 → EReal} {W2 W2' : Fin 512 → Fin 256 → EReal}
    {b2 b2' : Fin 256 → EReal} {W3 W3' : Fin 256 → EReal} {b3 b3' : EReal} (hx : ∀ i, x i = x' i) (h1 : ∀ i k, W1 i k = W1' i k)
    (g1 : ∀ k, b1 k = b1' k) (h2 : ∀ k l, W2 k l = W2' k l) (g2 : ∀ l, b2 l = b2' l) (h3 : ∀ l, W3 l = W3' l) (g3 : b3 = b3') :
    dense x W1 b1 W2 b2 W3 b3 = dense x' W1' b1' W2' b2' W3' b3' := by
  unfold dense
  simp only [hx, h1, g1, h2, g2, h3, g3]

/-- A row of the kernel's block: the layers of that row of the rows' block. -/
theorem block_row (v0 : FVec Ideal Cert.KernelIdeal.S512x320 .f32) (v2 : FVec Ideal Cert.KernelIdeal.S320x512 .f32) (v4 : FVec Ideal Cert.KernelIdeal.S1x512 .f32)
    (v13 : FVec Ideal Cert.KernelIdeal.S512x256 .f32) (v15 : FVec Ideal Cert.KernelIdeal.S1x256 .f32) (v24 : FVec Ideal Cert.KernelIdeal.S256x1 .f32)
    (v26 : FVec Ideal Cert.KernelIdeal.S1x1 .f32) (r : Fin 512) (z : Fin 1) :
    Cert.KernelIdeal.Gen.k1_pay1 (F := Ideal) v0 v2 v4 v13 v15 v24 v26 (ix2 r z)
      = dense (fun i => v0 (ix2 r i)) (fun i k => v2 (ix2 i k)) (fun k => v4 (ix2 0 k)) (fun k l => v13 (ix2 k l)) (fun l => v15 (ix2 0 l))
        (fun l => v24 (ix2 l z)) (v26 (ix2 0 z)) := by
  pointwise [Cert.KernelIdeal.Gen.k1_pay1]
  obtain rfl : z = 0 := Subsingleton.elim _ _
  rfl

/-- At zero the two branches agree, so it is no matter which of them takes it. -/
theorem bend_le (x : EReal) : (if 0 ≤ x then x else slope * x) = bend x := by
  unfold bend
  rcases lt_trichotomy 0 x with h | h | h
  · rw [if_pos h.le, if_pos h]
  · subst h; simp
  · rw [if_neg (not_le.2 h), if_neg (not_lt.2 h.le)]

/-- How the reference's lookup reads rows of the table. -/
abbrev rowsDims := Cert.ReferenceIdeal.gather_S1000000x16_S16384x20x1_S16384x20x16_2_0_n_n_0_2_116

open Cert.ReferenceIdeal in
/-- The reference's lookup at an index: where every word is below the table's height nothing wraps and nothing is filled in. -/
theorem gather_row (a0 : IVec S16384x20 32) (a1 : FVec Ideal S1000000x16 .f32) (h : ∀ j, (a0 j).toNat < 1000000) (r : Fin 16384) (l : Fin 20)
    (k : Fin 16) :
    Host.gather rowsDims a1
      (broadcastInDim S16384x20x1 ![0, 1] Gen.bcast_S16384x20_S16384x20x1_0_1 a0) (ix3 r l k) = a1 (ix2 ⟨(a0 (ix2 r l)).toNat, h _⟩ k) := by
  have hb : ∀ a : Fin 2, a ∉ rowsDims.operandBatchingDims := by decide
  have hs : (0 : Fin 2) ∈ rowsDims.startIndexMap ∧ (1 : Fin 2) ∉ rowsDims.startIndexMap := by decide
  have hk : (0 : Fin 2) ∉ rowsDims.sKept ∧ (1 : Fin 2) ∈ rowsDims.sKept := by decide
  show a1 (rowsDims.operandIdx _ _) = _
  refine congrArg a1 (funext fun a => Fin.ext ?_)
  show rowsDims.start _ _ a + rowsDims.batchCoord _ a + rowsDims.offCoord _ a = _
  rw [GatherDims.batchCoord_eq_zero _ _ _ (hb a), Nat.add_zero]
  match a with
  | ⟨0, _⟩ =>
    have e : rowsDims.siIdx (ix3 r l k) ⟨rowsDims.startIndexMap.idxOf (0 : Fin 2), List.idxOf_lt_length_iff.2 hs.1⟩ = ix3 r l 0 := by
      funext b
      match b with
      | ⟨0, _⟩ => rfl
      | ⟨1, _⟩ => rfl
      | ⟨2, _⟩ => rfl
    refine Eq.trans (congrArg₂ (· + ·) (dif_pos hs.1) (dif_neg hk.1)) ?_
    refine Eq.trans (congrArg (fun q =>
      min (broadcastInDim S16384x20x1 ![0, 1] Gen.bcast_S16384x20_S16384x20x1_0_1 a0 q).toInt.toNat 999999 + 0) e) ?_
    have hr : broadcastInDim S16384x20x1 ![0, 1] Gen.bcast_S16384x20_S16384x20x1_0_1 a0 (ix3 r l 0) = a0 (ix2 r l) := by pointwise
    beta_reduce
    rw [hr]
    have h1 := h (ix2 r l)
    show min (a0 (ix2 r l)).toInt.toNat 999999 + 0 = (a0 (ix2 r l)).toNat
    generalize a0 (ix2 r l) = w at h1 ⊢
    have : w.toInt = (w.toNat : Int) := by rw [BitVec.toInt_eq_toNat_cond, if_pos (by omega)]
    rw [this]
    omega
  | ⟨1, _⟩ =>
    refine Eq.trans (congrArg₂ (· + ·) (dif_neg hs.2) (dif_pos hk.2)) ?_
    exact Nat.zero_add _

open Cert.ReferenceIdeal in
/-- A row of the reference's result: the layers of the twenty rows of the table that the row's words name. -/
theorem ref_row (m : (ℓ : Loc nD τ sig) → Buf (Elt Ideal) ℓ) (c : Dev nD)
    (hx : ∀ j : S16384x20.Idx, (m ((c.tc : Thread nD τ).loc main_arg0) j : BitVec 32).toNat < 1000000) (r : Fin 16384) (z : Fin 1) :
    Value.res_main_v15 m c (ix2 r z)
      = dense (fun i => (m ((c.tc : Thread nD τ).loc main_arg1) : FVec Ideal S1000000x16 .f32)
            (ix2 ⟨(m ((c.tc : Thread nD τ).loc main_arg0) (ix2 r ⟨i.val / 16, by omega⟩) : BitVec 32).toNat, hx _⟩ ⟨i.val % 16, by omega⟩))
          (fun i k => m ((c.tc : Thread nD τ).loc main_arg2) (ix2 i k)) (fun k => m ((c.tc : Thread nD τ).loc main_arg3) (ix1 k))
          (fun k l => m ((c.tc : Thread nD τ).loc main_arg4) (ix2 k l)) (fun l => m ((c.tc : Thread nD τ).loc main_arg5) (ix1 l))
          (fun l => m ((c.tc : Thread nD τ).loc main_arg6) (ix2 l z)) (m ((c.tc : Thread nD τ).loc main_arg7) (ix1 0)) := by
  unfold Value.res_main_v15
  generalize (m ((c.tc : Thread nD τ).loc main_arg0) : IVec S16384x20 32) = a0 at hx ⊢
  generalize (m ((c.tc : Thread nD τ).loc main_arg1) : FVec Ideal S1000000x16 .f32) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  generalize m ((c.tc : Thread nD τ).loc main_arg6) = a6
  generalize m ((c.tc : Thread nD τ).loc main_arg7) = a7
  clean_types
  generalize hH : shapeCast _ (select _ _ _) Gen.shapeCasts_S16384x20x16_S16384x320 = H
  have hw : select (cmpi .slt a0 (broadcastInDim S16384x20 ![] Gen.bcast_S_S16384x20 (constantI S_ 32 0#32)))
      (addi a0 (broadcastInDim S16384x20 ![] Gen.bcast_S_S16384x20 (constantI S_ 32 1000000#32))) a0 = a0 := by
    funext j
    have := hx j
    pointwise
    word_omega
  rw [hw] at hH
  have hv : ∀ i : Fin 320, H (ix2 r i) = a1 (ix2 ⟨(a0 (ix2 r ⟨i.val / 16, by omega⟩)).toNat, hx _⟩ ⟨i.val % 16, by omega⟩) := by
    intro i
    rw [← hH, ← gather_row a0 a1 hx]
    rw [show Host.reduce IntOp.andi _ _ Gen.reducesTo_S16384x20x1_S16384x20_d2 Gen.h_S_ = fun _ => (1#1 : BitVec 1) from
      funext fun j => Host.reduce_andi_one _ _ _ _ _ rfl fun i => ?_]
    · pointwise
    · have h1 := hx (ix2 (i 0) (i 1))
      pointwise
      refine IntOp.andi_eq_one.2 ⟨?_, ?_⟩
      · clear hH hw
        word_omega
      · clear hH hw
        word_omega
  have e : ∀ x : EReal, (if 0 ≤ x then x else id (constant (F := Ideal) S_ .f32 1045220557#32) ix0 * x) = bend x := bend_le
  pointwise
  simp only [hv, e]
  obtain rfl : z = 0 := Subsingleton.elim _ _
  rfl

end Cert.Proof.Layers

end
-- ==== Proof.Value.lean ====
/-
  What the program leaves in its result, as the three dense layers of the looked-up rows of the table.
-/
module

public import proofs.«01_k».proof.Proof.Main
public import proofs.«01_k».proof.Proof.Layers

@[expose] public section

set_option maxRecDepth 16384

noncomputable section

namespace Cert.Proof.Tile

open Cert.KernelIdeal Cert.KernelIdeal.Gen
open Idealize.ShloMosaic Idealize.ShloMosaic.TcCoe Idealize.ShloMosaic.Tactic
open Cert.Proof.Layers

section Blocks

variable (V : (c : Dev nD) → (b : Ref sig .tc) → Buf (Elt Ideal) ((c : Thread nD τ).loc b))

/-- Which block each window stages: the rows' and the result's go with the grid point, the others are whole. -/
theorem staged_where : ∀ t : Fin cfg1.N, win1_0.index t = ![(grid1.coords t 0).val, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![(grid1.coords t 0).val, 0] := by decide +kernel

/-- The result row by row. -/
def rowsOut (c : Dev nD) : FVec Ideal S16384x1 .f32 := fun j =>
  dense (fun i => (V c main_v2 : FVec Ideal S16384x320 .f32) (ix2 (j 0) i)) (fun i k => (V c main_arg2 : FVec Ideal S320x512 .f32) (ix2 i k))
    (fun k => (V c main_v3 : FVec Ideal S1x512 .f32) (ix2 0 k)) (fun k l => (V c main_arg4 : FVec Ideal S512x256 .f32) (ix2 k l))
    (fun l => (V c main_v4 : FVec Ideal S1x256 .f32) (ix2 0 l)) (fun l => (V c main_arg6 : FVec Ideal S256x1 .f32) (ix2 l (j 1)))
    ((V c main_v5 : FVec Ideal S1x1 .f32) (ix2 0 (j 1)))

theorem denseOut_eq (c : Dev nD) : denseOut V c = rowsOut V c := by
  refine (denseDat V c).arrAt_eq_of_covers 7 _ (by decide +kernel) fun t hf y => ?_
  have hw := staged_where t
  change S512x1.Idx at y
  show denseBlk V c t y = _
  unfold denseBlk
  have hy : y = ix2 (y 0) (y 1) := eq_ix2 y
  rw [hy]
  refine (block_row _ _ _ _ _ _ _ (y 0) (y 1)).trans ?_
  unfold rowsOut
  obtain ⟨h0, h1, h2, h3, h4, h5, h6, h7⟩ := hw
  have g0 : ∀ i, (win1_0.blk t).view.emb (ix2 (y 0) i) = ix2 ((win1_7.blk t).view.emb (ix2 (y 0) (y 1)) 0) i := fun i => by
    blk_ext [h0, h7]
  have g1 : ∀ i k, (win1_1.blk t).view.emb (ix2 i k) = ix2 i k := fun i k => by blk_ext [h1]
  have g2 : ∀ k, (win1_2.blk t).view.emb (ix2 0 k) = ix2 0 k := fun k => by blk_ext [h2]
  have g3 : ∀ i k, (win1_3.blk t).view.emb (ix2 i k) = ix2 i k := fun i k => by blk_ext [h3]
  have g4 : ∀ k, (win1_4.blk t).view.emb (ix2 0 k) = ix2 0 k := fun k => by blk_ext [h4]
  have g5 : ∀ k, (win1_5.blk t).view.emb (ix2 k (y 1)) = ix2 k ((win1_7.blk t).view.emb (ix2 (y 0) (y 1)) 1) := fun k => by blk_ext [h5, h7]
  have g6 : (win1_6.blk t).view.emb (ix2 0 (y 1)) = ix2 0 ((win1_7.blk t).view.emb (ix2 (y 0) (y 1)) 1) := by blk_ext [h6, h7]
  exact dense_congr (fun i => congrArg (V c main_v2) (g0 i)) (fun i k => congrArg (V c main_arg2) (g1 i k)) (fun k => congrArg (V c main_v3) (g2 k))
    (fun k l => congrArg (V c main_arg4) (g3 k l)) (fun l => congrArg (V c main_v4) (g4 l)) (fun l => congrArg (V c main_arg6) (g5 l))
    (congrArg (V c main_v5) g6)

end Blocks

variable (m : (ℓ : Loc nD τ sig) → Buf (Elt Ideal) ℓ)

theorem bufs3_v2 (d : Dev nD) : (bufs3 m d main_v2 : FVec Ideal S16384x320 .f32)
    = shapeCast S16384x320 (gath (tabOf m d) (listOf m d)) shapeCasts_S327680x16_S16384x320 := by
  unfold bufs3 val3
  rw [StableHlo.reshape_result_ne _ _ _ _ _ _ _ (by decide), StableHlo.reshape_result_ne _ _ _ _ _ _ _ (by decide),
    StableHlo.reshape_result_ne _ _ _ _ _ _ _ (by decide), StableHlo.reshape_result main_v1 main_v2 _ _ _ _ (val2 m d), val2_v1]
  rfl

theorem bufs3_v3 (d : Dev nD) : (bufs3 m d main_v3 : FVec Ideal S1x512 .f32)
    = shapeCast S1x512 (m ((d : Thread nD τ).loc main_arg3) : FVec Ideal S512 .f32) shapeCasts_S512_S1x512 := by
  unfold bufs3 val3
  rw [StableHlo.reshape_result_ne _ _ _ _ _ _ _ (by decide), StableHlo.reshape_result_ne _ _ _ _ _ _ _ (by decide),
    StableHlo.reshape_result main_arg3 main_v3 _ _ _ _ _, StableHlo.reshape_result_ne _ _ _ _ _ _ _ (by decide), val2_ne m d (by decide)]
  unfold val1
  rw [StableHlo.reshape_result_ne _ _ _ _ _ _ _ (by decide)]
  rfl

theorem bufs3_v4 (d : Dev nD) : (bufs3 m d main_v4 : FVec Ideal S1x256 .f32)
    = shapeCast S1x256 (m ((d : Thread nD τ).loc main_arg5) : FVec Ideal S256 .f32) shapeCasts_S256_S1x256 := by
  unfold bufs3 val3
  rw [StableHlo.reshape_result_ne _ _ _ _ _ _ _ (by decide), StableHlo.reshape_result main_arg5 main_v4 _ _ _ _ _,
    StableHlo.reshape_result_ne _ _ _ _ _ _ _ (by decide), StableHlo.reshape_result_ne _ _ _ _ _ _ _ (by decide), val2_ne m d (by decide)]
  unfold val1
  rw [StableHlo.reshape_result_ne _ _ _ _ _ _ _ (by decide)]
  rfl

theorem bufs3_v5 (d : Dev nD) : (bufs3 m d main_v5 : FVec Ideal S1x1 .f32)
    = shapeCast S1x1 (m ((d : Thread nD τ).loc main_arg7) : FVec Ideal S1 .f32) shapeCasts_S1_S1x1 := by
  unfold bufs3 val3
  rw [StableHlo.reshape_result main_arg7 main_v5 _ _ _ _ _, StableHlo.reshape_result_ne _ _ _ _ _ _ _ (by decide),
    StableHlo.reshape_result_ne _ _ _ _ _ _ _ (by decide), StableHlo.reshape_result_ne _ _ _ _ _ _ _ (by decide), val2_ne m d (by decide)]
  unfold val1
  rw [StableHlo.reshape_result_ne _ _ _ _ _ _ _ (by decide)]
  rfl

theorem bufs3_kept (d : Dev nD) {b : Ref sig .tc} (h : b ∉ ({main_v0, main_v1, main_v2, main_v3, main_v4, main_v5, main_v6} : Finset (Ref sig .tc))) :
    bufs3 m d b = m ((d : Thread nD τ).loc b) :=
  (bufs4_ne m d (fun e => h (by subst e; decide))).symm.trans (bufs4_kept m d h)

/-- The gathered rows laid out twenty to a row of 320: lane `i` is lane `i % 16` of the table's row that word `i / 16` names. -/
theorem spread_row (tab : FVec Ideal S1000000x16 .f32) (a : IVec S16384x20 32) (h : ∀ j, (a j).toNat < 1000000) (r : Fin 16384) (i : Fin 320) :
    (shapeCast S16384x320 (gath (F := Ideal) tab (shapeCast S327680 a shapeCasts_S16384x20_S327680)) shapeCasts_S327680x16_S16384x320 : FVec Ideal S16384x320 .f32) (ix2 r i)
      = tab (ix2 ⟨(a (ix2 r ⟨i.val / 16, by omega⟩)).toNat, h _⟩ ⟨i.val % 16, by omega⟩) := by
  have hr : shapeCast S327680 a shapeCasts_S16384x20_S327680 (ix1 ⟨r.val * 20 + i.val / 16, by omega⟩) = a (ix2 r ⟨i.val / 16, by omega⟩) := by
    pointwise
    have e : (r.val * 20 + i.val / 16) % 20 = i.val / 16 := by omega
    simp only [e]
  pointwise
  show pick (F := Ideal) tab (shapeCast S327680 a shapeCasts_S16384x20_S327680 (ix1 ⟨r.val * 20 + i.val / 16, _⟩)) ⟨i.val % 16, _⟩ = _
  rw [hr, pick_of_lt _ (h _)]
  exact congrArg tab (funext fun b => match b with | ⟨0, _⟩ => rfl | ⟨1, _⟩ => rfl)

/-- A row of the program's result: the layers of the twenty rows of the table that the row's words name. -/
theorem result_row (h : InRange m) (d : Dev nD) (r : Fin 16384) (z : Fin 1) :
    (bufs4 m d main_v6 : FVec Ideal S16384x1 .f32) (ix2 r z)
      = dense (fun i => (m ((d : Thread nD τ).loc main_arg1) : FVec Ideal S1000000x16 .f32)
            (ix2 ⟨(m ((d : Thread nD τ).loc main_arg0) (ix2 r ⟨i.val / 16, by omega⟩) : BitVec 32).toNat, h d _⟩ ⟨i.val % 16, by omega⟩))
          (fun i k => (m ((d : Thread nD τ).loc main_arg2) : FVec Ideal S320x512 .f32) (ix2 i k)) (fun k => (m ((d : Thread nD τ).loc main_arg3) : FVec Ideal S512 .f32) (ix1 k))
          (fun k l => (m ((d : Thread nD τ).loc main_arg4) : FVec Ideal S512x256 .f32) (ix2 k l)) (fun l => (m ((d : Thread nD τ).loc main_arg5) : FVec Ideal S256 .f32) (ix1 l))
          (fun l => (m ((d : Thread nD τ).loc main_arg6) : FVec Ideal S256x1 .f32) (ix2 l z)) ((m ((d : Thread nD τ).loc main_arg7) : FVec Ideal S1 .f32) (ix1 0)) := by
  rw [bufs4_v6, denseOut_eq]
  unfold rowsOut
  refine dense_congr (fun i => ?_) (fun i k => ?_) (fun k => ?_) (fun k l => ?_) (fun l => ?_) (fun l => ?_) ?_
  · rw [bufs3_v2, listOf_eq]
    exact spread_row (tabOf m d) (m ((d : Thread nD τ).loc main_arg0)) (h d) r i
  · rw [bufs3_kept m d (b := main_arg2) (by decide)]
  · rw [bufs3_v3]; pointwise
  · rw [bufs3_kept m d (b := main_arg4) (by decide)]
  · rw [bufs3_v4]; pointwise
  · rw [bufs3_kept m d (b := main_arg6) (by decide)]; rfl
  · rw [bufs3_v5]; pointwise

end Cert.Proof.Tile

end
-- ==== Proof.Same.lean ====
/-
  The kernel and the reference compute the same result over the extended reals.
-/
module

public import proofs.«01_k».proof.Proof.Frames
public import proofs.«01_k».proof.Proof.Value

@[expose] public section

set_option maxRecDepth 16384

noncomputable section

namespace Cert.Proof.Same

open Idealize.ShloMosaic Idealize.ShloMosaic.TcCoe Idealize.SL.Sem Cert.Proof.Tile Cert.Proof.Layers

/-- The looked-up lane depends on the table and the words alone. -/
theorem lookup_congr {tab tab' : FVec Ideal Cert.KernelIdeal.S1000000x16 .f32} {a a' : IVec Cert.KernelIdeal.S16384x20 32} (ht : tab = tab')
    (ha : a = a') (h : ∀ j, (a j).toNat < 1000000) (h' : ∀ j, (a' j).toNat < 1000000) (j : Cert.KernelIdeal.S16384x20.Idx) (k : Fin 16) :
    tab (ix2 ⟨(a j).toNat, h j⟩ k) = tab' (ix2 ⟨(a' j).toNat, h' j⟩ k) := by
  subst ht ha
  rfl

theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' hpre hagree
  have hr : InRange m := fun d j => Frames.words_in_range _ _ _ _ _ _ _ _ (hpre d) j
  refine ⟨fun c => bufs4 m c Cert.KernelIdeal.main_v6, ?_, ?_⟩
  · exact (θ_run Cert.KernelIdeal.defs _ _).mono
      (fun r h c => ⟨h.1 c Cert.KernelIdeal.main_v6 (by decide), Frames.args_kept m r c (h.1 c)⟩) (run_main (F := Ideal) m g hr)
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7⟩ := hagree c
    have hr' : ∀ j : Cert.ReferenceIdeal.S16384x20.Idx,
        (m' ((c.tc : Thread Cert.ReferenceIdeal.nD Cert.ReferenceIdeal.τ).loc Cert.ReferenceIdeal.main_arg0) j : BitVec 32).toNat < 1000000 :=
      fun j => lt_of_eq_of_lt (congrArg BitVec.toNat (congrFun e0 j)) (hr c j)
    funext j
    change Cert.ReferenceIdeal.S16384x1.Idx at j
    rw [show j = ix2 (j 0) (j 1) from eq_ix2 j]
    refine (ref_row m' c hr' (j 0) (j 1)).trans (Eq.trans ?_ (result_row m hr c (j 0) (j 1)).symm)
    exact dense_congr (fun i => lookup_congr e1 e0 hr' (hr c) _ _) (fun i k => congrFun e2 _) (fun k => congrFun e3 _) (fun k l => congrFun e4 _)
      (fun l => congrFun e5 _) (fun l => congrFun e6 _) (congrFun e7 _)

end Cert.Proof.Same

end
-- ==== Proof.lean ====
/-
  The certificate's claims, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Same
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Pre_in_range.Gen.facts,
  Frames.frame_kernel, Frames.frame_ideal, Frames.frame_reference,
  fun m ρ _ => Frames.frame_reference m ρ trivial, trivial, Same.algebraic⟩

end Cert.Proof

end
